-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_and_actions [hPre_rows_and_actions : Cert.Pre_rows_and_actions.Facts] (m : (ℓ : Loc Cert.KernelIdeal.nD Cert.KernelIdeal.τ Cert.KernelIdeal.sig) → Buf (Elt Ideal) ℓ) : Prop :=
  ∀ c : Dev Cert.KernelIdeal.nD,
    (Cert.Pre_rows_and_actions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_and_actions [hPre_rows_and_actions : Cert.Pre_rows_and_actions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_and_actions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_and_actions [hKernelIdeal : Cert.KernelIdeal.Facts] [hPre_rows_and_actions : Cert.Pre_rows_and_actions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_and_actions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_and_actions [hReferenceIdeal : Cert.ReferenceIdeal.Facts] [hPre_rows_and_actions : Cert.Pre_rows_and_actions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_and_actions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_and_actions [hKernelIdeal : Cert.KernelIdeal.Facts] [hReferenceIdeal : Cert.ReferenceIdeal.Facts] [hPre_rows_and_actions : Cert.Pre_rows_and_actions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_and_actions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_and_actions : Cert.Pre_rows_and_actions.Facts),
    quiescent_Kernel (hKernel := hKernel)
    ∧ quiescent_KernelIdeal (hKernelIdeal := hKernelIdeal)
    ∧ quiescent_KernelIdeal_pre_rows_and_actions (hKernelIdeal := hKernelIdeal) (hPre_rows_and_actions := hPre_rows_and_actions)
    ∧ quiescent_ReferenceIdeal (hReferenceIdeal := hReferenceIdeal)
    ∧ quiescent_ReferenceIdeal_pre_rows_and_actions (hReferenceIdeal := hReferenceIdeal) (hPre_rows_and_actions := hPre_rows_and_actions)
    ∧ preserves_Kernel_KernelIdeal
    ∧ algebraic_KernelIdeal_ReferenceIdeal_pre_rows_and_actions (hKernelIdeal := hKernelIdeal) (hReferenceIdeal := hReferenceIdeal) (hPre_rows_and_actions := hPre_rows_and_actions)
-- ==== Pre_rows_and_actions.lean ====
abbrev S128x100000 : Shape := ⟨2, ![128, 100000]⟩
abbrev S128x1 : Shape := ⟨2, ![128, 1]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)

variable [Facts]

def fn {F : FTy → Type} [FloatOps F] (main_arg0 : FVec F S128x100000 .f32) (main_arg1 : IVec S128x1 32) : IVec S128x1 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_v1 : FVec F S128x1 .f32 := broadcastInDim S128x1 ![0] bcast_S128_S128x1_0 main_v0
  let main_c : IVec S_ 32 := constantI S_ 32 0#32
  let main_v2 : IVec S128x1 32 := broadcastInDim S128x1 ![] bcast_S_S128x1 main_c
  let main_v3 : IVec S128x1 1 := cmpi .sge main_arg1 main_v2
  let main_c_0 : IVec S_ 32 := constantI S_ 32 100000#32
  let main_v4 : IVec S128x1 32 := broadcastInDim S128x1 ![] bcast_S_S128x1 main_c_0
  let main_v5 : IVec S128x1 1 := cmpi .slt main_arg1 main_v4
  let main_v6 : IVec S128x1 1 := andi main_v3 main_v5
  let main_cst_1 : FVec F S_ .f32 := constant S_ .f32 0xFF800000#32
  let main_v7 : FVec F S128x1 .f32 := broadcastInDim S128x1 ![] bcast_S_S128x1 main_cst_1
  let main_v8 : IVec S128x1 1 := cmpf .ogt main_v1 main_v7
  let main_v9 : IVec S128x1 1 := andi main_v6 main_v8
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v1 main_v10
  let main_v12 : IVec S128x1 1 := andi main_v9 main_v11
  main_v12
-- ==== Kernel.lean ====
abbrev S128x100000 : Shape := ⟨2, ![128, 100000]⟩
abbrev S128x1 : Shape := ⟨2, ![128, 1]⟩
abbrev S8x100000 : Shape := ⟨2, ![8, 100000]⟩
abbrev S32x1 : Shape := ⟨2, ![32, 1]⟩
abbrev S8x1 : Shape := ⟨2, ![8, 1]⟩
abbrev S8 : Shape := ⟨1, ![8]⟩

abbrev nBuf : Space → Nat
  | .hbm => 5
  | .vmem => 16
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S128x1, .f32⟩
  | .hbm, ⟨3, _⟩ => ⟨S128x1, .f32⟩
  | .hbm, ⟨4, _⟩ => ⟨S128x1, .i32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | .local _ .vmem, ⟨6, _⟩ => ⟨S8x100000, .f32⟩
  | .local _ .vmem, ⟨7, _⟩ => ⟨S8x100000, .f32⟩
  | .local _ .vmem, ⟨8, _⟩ => ⟨S32x1, .i32⟩
  | .local _ .vmem, ⟨9, _⟩ => ⟨S32x1, .i32⟩
  | .local _ .vmem, ⟨10, _⟩ => ⟨S32x1, .f32⟩
  | .local _ .vmem, ⟨11, _⟩ => ⟨S32x1, .f32⟩
  | .local _ .vmem, ⟨12, _⟩ => ⟨S32x1, .f32⟩
  | .local _ .vmem, ⟨13, _⟩ => ⟨S32x1, .f32⟩
  | .local _ .vmem, ⟨14, _⟩ => ⟨S32x1, .i32⟩
  | .local _ .vmem, ⟨15, _⟩ => ⟨S32x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x100000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S128x100000 : Shape := ⟨2, ![128, 100000]⟩
abbrev S128x1 : Shape := ⟨2, ![128, 1]⟩
abbrev S_ : Shape := ⟨0, ![]⟩
abbrev S128 : Shape := ⟨1, ![128]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S_, .f32⟩
  | .hbm, ⟨3, _⟩ => ⟨S128, .f32⟩
  | .hbm, ⟨4, _⟩ => ⟨S128x1, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .i1⟩
  | .hbm, ⟨9, _⟩ => ⟨S_, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x100000, .f32⟩
  | .hbm, ⟨14, _⟩ => ⟨S128x100000, .f32⟩
  | .hbm, ⟨15, _⟩ => ⟨S128x100000, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x100000, .f32⟩
  | .hbm, ⟨22, _⟩ => ⟨S128x100000, .f32⟩
  | .hbm, ⟨23, _⟩ => ⟨S128x100000, .f32⟩
  | .hbm, ⟨24, _⟩ => ⟨S_, .i32⟩
  | .hbm, ⟨25, _⟩ => ⟨S128x1, .i32⟩
  | .hbm, ⟨26, _⟩ => ⟨S128x1, .i1⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x1, .i32⟩
  | .hbm, ⟨31, _⟩ => ⟨S128x1x1, .i32⟩
  | .hbm, ⟨32, _⟩ => ⟨S1, .i32⟩
  | .hbm, ⟨33, _⟩ => ⟨S_, .i32⟩
  | .hbm, ⟨34, _⟩ => ⟨S128x1x1, .i32⟩
  | .hbm, ⟨35, _⟩ => ⟨S128x1x1, .i1⟩
  | .hbm, ⟨36, _⟩ => ⟨S1x1x1, .i32⟩
  | .hbm, ⟨37, _⟩ => ⟨S128x1x1, .i32⟩
  | .hbm, ⟨38, _⟩ => ⟨S128x1x1, .i1⟩
  | .hbm, ⟨39, _⟩ => ⟨S128x1x1, .i1⟩
  | .hbm, ⟨40, _⟩ => ⟨S_, .i1⟩
  | .hbm, ⟨41, _⟩ => ⟨S128x1, .i1⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128, .f32⟩
  | .hbm, ⟨48, _⟩ => ⟨S128x1, .f32⟩
  | .hbm, ⟨49, _⟩ => ⟨S128x100000, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128x1, .f32⟩
  | .hbm, ⟨54, _⟩ => ⟨S128x100000, .i32⟩
  | .hbm, ⟨55, _⟩ => ⟨S_, .f32⟩
  | .hbm, ⟨56, _⟩ => ⟨S_, .i32⟩
  | .hbm, ⟨57, _⟩ => ⟨S128, .f32⟩
  | .hbm, ⟨58, _⟩ => ⟨S128, .i32⟩
  | .hbm, ⟨59, _⟩ => ⟨S128x1, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_call2_v0 : Ref sig .tc := ⟨.hbm, 54, rfl⟩
abbrev main_call2_cst : Ref sig .tc := ⟨.hbm, 55, rfl⟩
abbrev main_call2_c : Ref sig .tc := ⟨.hbm, 56, rfl⟩
abbrev main_call2_v1_0 : Ref sig .tc := ⟨.hbm, 57, rfl⟩
abbrev main_v23 : Ref sig .tc := ⟨.hbm, 58, rfl⟩
abbrev main_v24 : Ref sig .tc := ⟨.hbm, 59, rfl⟩

abbrev nD : Nat := 1
abbrev τ : Topo := Topo.v7x

variable {F : FTy → Type} [FloatOps F]
-- ==== Proof.RowMath.lean ====
/-
  The mathematics of one row, with nothing of either program in it. A row of extended reals `x` whose maximum is the real
  number `m` (`Fit`) has finite weights `exp (x j - m)`; both ways of writing the log-probability, the entropy and the
  first index of the maximum are shown equal to the same expressions here (`logNorm`, `entropy`, `IsFirst`).
-/
module

public import Idealize.ShloMosaic.PureOps.Ideal.Laws

@[expose] public section

noncomputable section

namespace Cert.Proof.Row

open Idealize.ShloMosaic

variable {n : ℕ}

/-- The real number `m` is the maximum of the row `x`. -/
structure Fit (x : Fin n → EReal) (m : ℝ) : Prop where
  le : ∀ j, x j ≤ (m : EReal)
  hit : ∃ j, x j = (m : EReal)

/-- A row whose maximum, folded from `-∞`, lies strictly between the infinities has a real maximum. -/
theorem exists_fit (x : Fin n → EReal) (h0 : ⊥ < (Finset.univ : Finset (Fin n)).fold max ⊥ x)
    (h1 : (Finset.univ : Finset (Fin n)).fold max ⊥ x < ⊤) : ∃ m : ℝ, Fit x m := by
  obtain ⟨m, hm⟩ : ∃ m : ℝ, (Finset.univ : Finset (Fin n)).fold max ⊥ x = (m : EReal) := by
    generalize (Finset.univ : Finset (Fin n)).fold max ⊥ x = v at h0 h1
    induction v with
    | bot => exact absurd h0 (lt_irrefl _)
    | coe r => exact ⟨r, rfl⟩
    | top => exact absurd h1 (lt_irrefl _)
  have le : ∀ j, x j ≤ (m : EReal) := fun j => by
    rw [← hm]; exact Finset.le_fold_max _ |>.2 (.inr ⟨j, Finset.mem_univ _, le_rfl⟩)
  refine ⟨m, le, ?_⟩
  rcases (Finset.le_fold_max (m : EReal)).1 hm.ge with h | ⟨j, -, h⟩
  · exact absurd (h.trans_lt (EReal.bot_lt_coe m)) (lt_irrefl _)
  · exact ⟨j, le_antisymm (le j) h⟩

/-- The fold of `max` from `-∞` over a row is the row's maximum. -/
theorem Fit.fold {x : Fin n → EReal} {m : ℝ} (h : Fit x m) :
    (Finset.univ : Finset (Fin n)).fold max ⊥ x = (m : EReal) := by
  obtain ⟨j, hj⟩ := h.hit
  refine le_antisymm ((Finset.fold_max_le _).2 ⟨bot_le, fun j _ => h.le j⟩) ?_
  exact (Finset.le_fold_max _).2 (.inr ⟨j, Finset.mem_univ _, hj.ge⟩)

/-- A sum of real numbers, taken in the extended reals, is the real sum. -/
theorem coe_sum (s : Finset (Fin n)) (f : Fin n → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- The weight of an element: the exponential of its distance from the maximum, as a real number. -/
def weight (x : Fin n → EReal) (m : ℝ) (j : Fin n) : ℝ := (Ideal.exp (x j - (m : EReal))).toReal

/-- The sum of the weights of a row. -/
def total (x : Fin n → EReal) (m : ℝ) : ℝ := ∑ j, weight x m j

/-- The sum of the elements of a row times their weights. -/
def moment (x : Fin n → EReal) (m : ℝ) : ℝ := ∑ j, (x j).toReal * weight x m j

/-- The logarithm of the sum of the exponentials of a row. -/
def logNorm (x : Fin n → EReal) (m : ℝ) : ℝ := m + Real.log (total x m)

/-- The entropy of the row's softmax: the log-sum-exp less the weighted mean of the elements. -/
def entropy (x : Fin n → EReal) (m : ℝ) : ℝ := logNorm x m - moment x m / total x m

/-- `J` is the first place at which the row takes its maximum. -/
def IsFirst (x : Fin n → EReal) (m : ℝ) (J : Fin n) : Prop := x J = (m : EReal) ∧ ∀ j, j < J → x j ≠ (m : EReal)

/-- Some place is the first at which the row takes its maximum. -/
theorem Fit.exists_first {x : Fin n → EReal} {m : ℝ} (h : Fit x m) : ∃ J, IsFirst x m J := by
  classical
  let s := (Finset.univ : Finset (Fin n)).filter fun j => x j = (m : EReal)
  have hs : s.Nonempty := by
    obtain ⟨j, hj⟩ := h.hit
    exact ⟨j, by simp [s, hj]⟩
  refine ⟨s.min' hs, by simpa [s] using s.min'_mem hs, fun j hj hx => ?_⟩
  exact absurd (s.min'_le j (by simp [s, hx])) (not_le.2 hj)

section Weights

variable {x : Fin n → EReal} {m : ℝ}

/-- An element of the row is `-∞` or a real number at most the maximum. -/
theorem Fit.cases (h : Fit x m) (j : Fin n) : x j = ⊥ ∨ ∃ r : ℝ, x j = (r : EReal) ∧ r ≤ m := by
  have hl := h.le j
  generalize x j = v at hl ⊢
  induction v with
  | bot => exact .inl rfl
  | coe r => exact .inr ⟨r, rfl, EReal.coe_le_coe_iff.1 hl⟩
  | top => exact absurd hl (not_le.2 (EReal.coe_lt_top m))

/-- The exponential of an element's distance from the maximum is its weight. -/
theorem Fit.exp_sub (h : Fit x m) (j : Fin n) : Ideal.exp (x j - (m : EReal)) = (weight x m j : EReal) := by
  unfold weight
  rcases h.cases j with e | ⟨r, e, -⟩
  · rw [e, EReal.bot_sub, Ideal.exp_bot, EReal.toReal_zero, EReal.coe_zero]
  · rw [e, ← EReal.coe_sub, Ideal.exp_coe, EReal.toReal_coe]

/-- The weight of `-∞` is zero. -/
theorem weight_bot {j : Fin n} (e : x j = ⊥) : weight x m j = 0 := by
  rw [weight, e, EReal.bot_sub, Ideal.exp_bot, EReal.toReal_zero]

/-- The weight of a real number is the real exponential of its distance from the maximum. -/
theorem weight_coe {j : Fin n} {r : ℝ} (e : x j = (r : EReal)) : weight x m j = Real.exp (r - m) := by
  rw [weight, e, ← EReal.coe_sub, Ideal.exp_coe, EReal.toReal_coe]

/-- No weight is negative. -/
theorem Fit.weight_nonneg (h : Fit x m) (j : Fin n) : 0 ≤ weight x m j := by
  rcases h.cases j with e | ⟨r, e, -⟩
  · rw [weight_bot e]
  · rw [weight_coe e]; exact (Real.exp_pos _).le

/-- No weight is above one. -/
theorem Fit.weight_le_one (h : Fit x m) (j : Fin n) : weight x m j ≤ 1 := by
  rcases h.cases j with e | ⟨r, e, hr⟩
  · rw [weight_bot e]; exact zero_le_one
  · rw [weight_coe e]; exact Real.exp_le_one_iff.2 (by linarith)

/-- The weight of the maximum is one. -/
theorem weight_top {j : Fin n} (e : x j = (m : EReal)) : weight x m j = 1 := by
  rw [weight_coe e, sub_self, Real.exp_zero]

/-- Only the maximum has the weight one. -/
theorem Fit.eq_of_weight (h : Fit x m) {j : Fin n} (e : weight x m j = 1) : x j = (m : EReal) := by
  rcases h.cases j with eb | ⟨r, er, -⟩
  · rw [weight_bot eb] at e; exact absurd e zero_ne_one
  · rw [weight_coe er] at e
    have : r - m = 0 := Real.exp_eq_one_iff _ |>.1 e
    rw [er, show r = m by linarith]

/-- The weights sum to at least one. -/
theorem Fit.one_le_total (h : Fit x m) : 1 ≤ total x m := by
  obtain ⟨j, hj⟩ := h.hit
  rw [← weight_top hj]
  exact Finset.single_le_sum (f := weight x m) (fun i _ => h.weight_nonneg i) (Finset.mem_univ j)

/-- The weights sum to a positive number. -/
theorem Fit.total_pos (h : Fit x m) : 0 < total x m := lt_of_lt_of_le one_pos h.one_le_total

/-- The sum of the exponentials of the shifted row, in the extended reals. -/
theorem Fit.sum_exp (h : Fit x m) : ∑ j, Ideal.exp (x j - (m : EReal)) = (total x m : EReal) := by
  rw [Finset.sum_congr rfl fun j _ => h.exp_sub j, coe_sum]; rfl

/-- The sum of the elements times the exponentials of the shifted row, in the extended reals. -/
theorem Fit.sum_mul_exp (h : Fit x m) : ∑ j, x j * Ideal.exp (x j - (m : EReal)) = (moment x m : EReal) := by
  rw [Finset.sum_congr rfl (g := fun j => (((x j).toReal * weight x m j : ℝ) : EReal)) fun j _ => ?_, coe_sum]; · rfl
  rw [h.exp_sub]
  rcases h.cases j with e | ⟨r, e, -⟩
  · rw [weight_bot e, e, EReal.coe_zero, mul_zero, mul_zero, EReal.coe_zero]
  · rw [e, EReal.toReal_coe, EReal.coe_mul]

/-- The logarithm of the sum of the weights is real. -/
theorem Fit.log_total (h : Fit x m) : Ideal.log (total x m : EReal) = (Real.log (total x m) : EReal) := by
  rw [Ideal.log_coe, if_neg (not_le.2 h.total_pos)]

/-- The maximum plus the logarithm of the sum of the weights. -/
theorem Fit.add_log (h : Fit x m) : (m : EReal) + Ideal.log (total x m : EReal) = (logNorm x m : EReal) := by
  rw [h.log_total, ← EReal.coe_add]; rfl

/-- The same with the maximum added on the right. -/
theorem Fit.log_add (h : Fit x m) : Ideal.log (total x m : EReal) + (m : EReal) = (logNorm x m : EReal) := by
  rw [add_comm, h.add_log]

/-- The entropy as log-sum-exp less the quotient of the two sums. -/
theorem Fit.sub_div (h : Fit x m) :
    (logNorm x m : EReal) - Ideal.div (moment x m : EReal) (total x m : EReal) = (entropy x m : EReal) := by
  rw [Ideal.div_coe h.total_pos.ne', ← EReal.coe_mul, ← EReal.coe_sub, mul_one_div]; rfl

/-- The probability of an element: its weight over the sum of the weights. -/
theorem Fit.exp_logProb (h : Fit x m) (j : Fin n) :
    Ideal.exp (x j - (logNorm x m : EReal)) = ((weight x m j / total x m : ℝ) : EReal) := by
  rcases h.cases j with e | ⟨r, e, -⟩
  · rw [weight_bot e, e, EReal.bot_sub, Ideal.exp_bot, zero_div, EReal.coe_zero]
  · rw [weight_coe e, e, ← EReal.coe_sub, Ideal.exp_coe, logNorm, ← sub_sub, Real.exp_sub, Real.exp_log h.total_pos]

/-- A probability times its logarithm is real: zero where the element is `-∞`. -/
theorem Fit.mul_logProb (h : Fit x m) (j : Fin n) :
    Ideal.exp (x j - (logNorm x m : EReal)) * (x j - (logNorm x m : EReal))
      = ((weight x m j / total x m * ((x j).toReal - logNorm x m) : ℝ) : EReal) := by
  rw [h.exp_logProb]
  rcases h.cases j with e | ⟨r, e, -⟩
  · rw [weight_bot e, zero_div, EReal.coe_zero, zero_mul, zero_mul, EReal.coe_zero]
  · rw [e, EReal.toReal_coe, ← EReal.coe_sub, ← EReal.coe_mul]

/-- The entropy as the negated sum of the probabilities times their logarithms. -/
theorem Fit.neg_sum (h : Fit x m) :
    -(∑ j, Ideal.exp (x j - (logNorm x m : EReal)) * (x j - (logNorm x m : EReal))) = (entropy x m : EReal) := by
  rw [Finset.sum_congr rfl fun j _ => h.mul_logProb j, coe_sum, ← EReal.coe_neg]
  congr 1
  have hs := h.total_pos.ne'
  have e : ∀ j, weight x m j / total x m * ((x j).toReal - logNorm x m)
      = (x j).toReal * weight x m j / total x m - weight x m j * (logNorm x m / total x m) := fun j => by ring
  rw [Finset.sum_congr rfl fun j _ => e j, Finset.sum_sub_distrib, ← Finset.sum_div, ← Finset.sum_mul]
  show -(moment x m / total x m - total x m * (logNorm x m / total x m)) = _
  rw [mul_div_cancel₀ _ hs, entropy]; ring

end Weights

/-! ### Folds that choose one element -/

/-- A left fold of a choice between two elements ends at an element of the list that wins against every other and against
    the initial one. -/
theorem foldl_choice {γ : Type} (f : γ → γ → γ) (hf : ∀ a b, f a b = a ∨ f a b = b) (best : γ) :
    ∀ (l : List γ) (init : γ), best ∈ l → f init best = best → (∀ q ∈ l, f q best = best) → (∀ q ∈ l, f best q = best) →
      l.foldl f init = best := by
  have keep : ∀ l : List γ, (∀ q ∈ l, f best q = best) → l.foldl f best = best := by
    intro l
    induction l with
    | nil => exact fun _ => rfl
    | cons q t ih =>
      intro h
      rw [List.foldl_cons, h q (List.mem_cons_self ..)]
      exact ih fun p hp => h p (List.mem_cons_of_mem _ hp)
  intro l
  induction l with
  | nil => exact fun _ h => absurd h (List.not_mem_nil)
  | cons q t ih =>
    intro init hm h1 h2 h3
    rw [List.foldl_cons]
    have h3' : ∀ p ∈ t, f best p = best := fun p hp => h3 p (List.mem_cons_of_mem _ hp)
    rcases List.mem_cons.1 hm with rfl | hm
    · rw [h1]; exact keep t h3'
    · refine ih _ hm ?_ (fun p hp => h2 p (List.mem_cons_of_mem _ hp)) h3'
      rcases hf init q with e | e <;> rw [e]
      · exact h1
      · exact h2 q (List.mem_cons_self ..)

/-- A fold of a commutative choice over a finite set is the element `v` that one index takes and that wins against every
    other and against the initial one. -/
theorem fold_choice {ι γ : Type} (f : γ → γ → γ) [Std.Commutative f] [Std.Associative f] (s : Finset ι) (g : ι → γ)
    (init v : γ) (a : ι) (ha : a ∈ s) (hv : g a = v) (h0 : f v init = v) (h : ∀ b ∈ s, f v (g b) = v) :
    s.fold f init g = v := by
  classical
  have keep : ∀ t : Finset ι, t ⊆ s → f v (t.fold f init g) = v := by
    intro t
    induction t using Finset.induction_on with
    | empty => intro _; rw [Finset.fold_empty]; exact h0
    | insert b t hb ih =>
      intro hts
      rw [Finset.fold_insert hb, ← Std.Associative.assoc (op := f), h b (hts (Finset.mem_insert_self ..))]
      exact ih fun c hc => hts (Finset.mem_insert_of_mem hc)
  rw [← Finset.insert_erase ha, Finset.fold_insert (Finset.notMem_erase a s), hv]
  exact keep _ (Finset.erase_subset ..)

/-- The signed order of two words of small naturals is the order of the naturals. -/
theorem slt_ofNat {a b : ℕ} (ha : a < 2 ^ 31) (hb : b < 2 ^ 31) :
    (BitVec.ofNat 32 a).slt (BitVec.ofNat 32 b) = decide (a < b) := by
  have h1 : (BitVec.ofNat 32 a).toInt = a := by
    rw [BitVec.toInt_eq_toNat_of_lt] <;> rw [BitVec.toNat_ofNat] <;> omega
  have h2 : (BitVec.ofNat 32 b).toInt = b := by
    rw [BitVec.toInt_eq_toNat_of_lt] <;> rw [BitVec.toNat_ofNat] <;> omega
  rw [BitVec.slt, h1, h2]; simp

/-- The signed order of the words of two small naturals, equality allowed, is theirs. -/
theorem sle_ofNat {a b : ℕ} (ha : a < 2 ^ 31) (hb : b < 2 ^ 31) :
    (BitVec.ofNat 32 a).sle (BitVec.ofNat 32 b) = decide (a ≤ b) := by
  have h1 : (BitVec.ofNat 32 a).toInt = a := by
    rw [BitVec.toInt_eq_toNat_of_lt] <;> rw [BitVec.toNat_ofNat] <;> omega
  have h2 : (BitVec.ofNat 32 b).toInt = b := by
    rw [BitVec.toInt_eq_toNat_of_lt] <;> rw [BitVec.toNat_ofNat] <;> omega
  rw [BitVec.sle, h1, h2, decide_eq_decide]; omega

/-- Two words of small naturals are equal only if the naturals are. -/
theorem ofNat_inj {a b : ℕ} (ha : a < 2 ^ 31) (hb : b < 2 ^ 31) (h : BitVec.ofNat 32 a = BitVec.ofNat 32 b) : a = b := by
  have := congrArg BitVec.toNat h
  rw [BitVec.toNat_ofNat, BitVec.toNat_ofNat] at this; omega

/-- The signed minimum of the words of two small naturals, the first at most the second, is the first. -/
theorem minsi_ofNat {a b : ℕ} (hab : a ≤ b) (hb : b < 2 ^ 31) :
    IntOp.minsi (BitVec.ofNat 32 a) (BitVec.ofNat 32 b) = BitVec.ofNat 32 a := by
  rw [IntOp.minsi, slt_ofNat (lt_of_le_of_lt hab hb) hb]
  rcases hab.lt_or_eq with h | rfl
  · simp [h]
  · simp

end Cert.Proof.Row
-- ==== Proof.KernelBlock.lean ====
/-
  What the kernel computes from one block of eight rows. The body handles four such blocks ("streams") in the same way;
  the value of each stream is named here once (`maxima`, `sums`, `moments`, `lses`, `ents`, `modes`, `lps`), and read at a
  row whose maximum is a real number it is the expression of `RowMath` in that row. The three stored values of the body are
  the stacks of the four streams' columns (`pay5_eq`, `pay6_eq`, `pay7_eq`), read at a row by `stack_apply`.
-/
module

public import proofs.«01_k».proof.Proof.RowMath
public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Proof.Blk

open Cert.KernelIdeal Cert.KernelIdeal.Gen Idealize.ShloMosaic
open Cert.Proof.Row

/-- The column of the maxima of the rows of a block. -/
def maxima (P : FVec Ideal S8x100000 .f32) : FVec Ideal S8x1 .f32 :=
  shapeCast S8x1 (multiReduction .maximumf [1] S8 P 0xFF800000#32 reduces_S8x100000_S8 (.inl rfl) rfl) shapeCasts_S8_S8x1

/-- The sum of each row, as a column. -/
def rowSums (P : FVec Ideal S8x100000 .f32) : FVec Ideal S8x1 .f32 :=
  shapeCast S8x1 (multiReduction .add [1] S8 P 0x00000000#32 reduces_S8x100000_S8 (.inl rfl) rfl) shapeCasts_S8_S8x1

/-- The exponentials of the rows, each shifted by its maximum. -/
def exps (P : FVec Ideal S8x100000 .f32) : FVec Ideal S8x100000 .f32 :=
  exp (subf P (broadcastTo S8x100000 (maxima P) broadcasts_S8x1_S8x100000))

/-- The column of the log-sum-exps. -/
def lses (P : FVec Ideal S8x100000 .f32) : FVec Ideal S8x1 .f32 := addf (maxima P) (log (rowSums (exps P)))

/-- The column of the entropies. -/
def ents (P : FVec Ideal S8x100000 .f32) : FVec Ideal S8x1 .f32 :=
  subf (lses P) (divf (rowSums (mulf P (exps P))) (rowSums (exps P)))

/-- The column of the first indices of the maxima. -/
def modes (P : FVec Ideal S8x100000 .f32) : IVec S8x1 32 :=
  shapeCast S8x1 (multiReductionI .minsi [1] S8
    (select (cmpf .oeq P (broadcastTo S8x100000 (maxima P) broadcasts_S8x1_S8x100000))
      (iota .tc S8x100000 32 [1] iota_S8x100000_d1_w32) (broadcast S8x100000 100000#32))
    2147483647#32 reduces_S8x100000_S8 rfl) shapeCasts_S8_S8x1

/-- The column of the log-probabilities of the actions `A`. -/
def lps (A : IVec S8x1 32) (P : FVec Ideal S8x100000 .f32) : FVec Ideal S8x1 .f32 :=
  subf (rowSums (select (cmpi .eq (iota .tc S8x100000 32 [1] iota_S8x100000_d1_w32)
    (broadcastTo S8x100000 A broadcasts_S8x1_S8x100000)) P (broadcast S8x100000 (Scalar.ofBits .f32 0x00000000#32)))) (lses P)

/-- The log-probabilities stored at a point are the stack of the four streams' columns, each with its eight actions. -/
theorem pay5_eq (A : IVec S32x1 32) (P0 P1 P2 P3 : FVec Ideal S8x100000 .f32) :
    k0_pay5 (F := Ideal) A (k0_pay13 A P0) (k0_pay22 P1 (k0_pay15 (F := Ideal) A) (k0_pay16 P1) (k0_pay18 P1)) (k0_pay29 A P2) P3
      = concatenate S32x1 0 [⟨S8x1, lps (extractStridedSlice S8x1 ![0, 0] A slices_S32x1_o0_0_S8x1) P0⟩,
          ⟨S8x1, lps (extractStridedSlice S8x1 ![8, 0] A slices_S32x1_o8_0_S8x1) P1⟩,
          ⟨S8x1, lps (extractStridedSlice S8x1 ![16, 0] A slices_S32x1_o16_0_S8x1) P2⟩,
          ⟨S8x1, lps (extractStridedSlice S8x1 ![24, 0] A slices_S32x1_o24_0_S8x1) P3⟩]
          concatenates_S8x1_S8x1_S8x1_S8x1_S32x1_d0 := rfl

/-- The entropies stored at a point are the stack of the four streams' columns. -/
theorem pay6_eq (P0 P1 P2 P3 : FVec Ideal S8x100000 .f32) :
    k0_pay6 (F := Ideal) (k0_pay14 P0) (k0_pay23 (k0_pay16 P1) (k0_pay18 P1) (k0_pay19 P1)) (k0_pay27 P2) (k0_pay30 P2) P3
      = concatenate S32x1 0 [⟨S8x1, ents P0⟩, ⟨S8x1, ents P1⟩, ⟨S8x1, ents P2⟩, ⟨S8x1, ents P3⟩]
          concatenates_S8x1_S8x1_S8x1_S8x1_S32x1_d0 := rfl

/-- The modes stored at a point are the stack of the four streams' columns. -/
theorem pay7_eq (P0 P1 P2 P3 : FVec Ideal S8x100000 .f32) :
    k0_pay7 (F := Ideal) (k0_pay12 (F := Ideal) P0) (k0_pay21 (F := Ideal) P1 (k0_pay16 P1)) (k0_pay28 (F := Ideal) P2) P3
      = concatenate S32x1 0 [⟨S8x1, modes P0⟩, ⟨S8x1, modes P1⟩, ⟨S8x1, modes P2⟩, ⟨S8x1, modes P3⟩]
          concatenates_S8x1_S8x1_S8x1_S8x1_S32x1_d0 := rfl

/-- A stack of four columns of eight, read at row `y`, is the column `y / 8` at row `y % 8`. -/
theorem stack_apply {α : Type} (f : Fin 4 → (S8x1.Idx → α)) (y : S32x1.Idx) (n : Fin 4) (i : Fin 8)
    (hn : (y 0).val / 8 = n.val) (hi : (y 0).val % 8 = i.val) :
    concatenate S32x1 0 [⟨S8x1, f 0⟩, ⟨S8x1, f 1⟩, ⟨S8x1, f 2⟩, ⟨S8x1, f 3⟩] concatenates_S8x1_S8x1_S8x1_S8x1_S32x1_d0 y
      = f n (ix2 i 0) := by
  show concatenate S32x1 0 (List.ofFn fun n : Fin 4 => (⟨S8x1, f n⟩ : (s : Shape) × (s.Idx → α))) _ y = _
  refine concatenate_ofFn_apply (t := S32x1) (s₁ := S8x1) (0 : Fin 2) f _ rfl 8 rfl y n hn (ix2 i 0) hi.symm fun b hb => ?_
  match b with
  | ⟨0, _⟩ => exact absurd rfl hb
  | ⟨1, _⟩ => show 0 = (y 1).val; have : (y 1).val < 1 := (y 1).isLt; omega

section Pointwise

variable {s : Shape}

/-- A sum of two arrays at an index. -/
theorem add_at (a b : FVec Ideal s .f32) (j : s.Idx) : addf a b j = ((a j : EReal) + (b j : EReal) : EReal) := rfl

/-- A difference of two arrays at an index. -/
theorem sub_at (a b : FVec Ideal s .f32) (j : s.Idx) : subf a b j = ((a j : EReal) - (b j : EReal) : EReal) := rfl

/-- A product of two arrays at an index. -/
theorem mul_at (a b : FVec Ideal s .f32) (j : s.Idx) : mulf a b j = ((a j : EReal) * (b j : EReal) : EReal) := rfl

/-- A quotient of two arrays at an index. -/
theorem div_at (a b : FVec Ideal s .f32) (j : s.Idx) : divf a b j = Ideal.div (a j) (b j) := rfl

/-- An exponential of an array at an index. -/
theorem exp_at (a : FVec Ideal s .f32) (j : s.Idx) : exp a j = Ideal.exp (a j) := rfl

/-- A logarithm of an array at an index. -/
theorem log_at (a : FVec Ideal s .f32) (j : s.Idx) : log a j = Ideal.log (a j) := rfl

/-- A choice by the equality of two arrays of numbers at an index. -/
theorem choose_eq_at {α : Type} (a b : FVec Ideal s .f32) (x y : s.Idx → α) (j : s.Idx) :
    select (cmpf .oeq a b) x y j = if (a j : EReal) = (b j : EReal) then x j else y j := by
  show (if BitVec.ofBool (decide ((a j : EReal) = (b j : EReal))) = 1#1 then x j else y j) = _
  by_cases e : (a j : EReal) = (b j : EReal) <;> simp [e]

/-- A choice by the equality of two arrays of words at an index. -/
theorem choose_word_at {α : Type} (a b : IVec s 32) (x y : s.Idx → α) (j : s.Idx) :
    select (cmpi .eq a b) x y j = if a j = b j then x j else y j := by
  show (if BitVec.ofBool (a j == b j) = 1#1 then x j else y j) = _
  by_cases e : a j = b j
  · rw [if_pos e, e, beq_self_eq_true]; rfl
  · rw [if_neg e, beq_eq_false_iff_ne.2 e]; rfl

end Pointwise

/-- One row of a block. -/
def row (P : FVec Ideal S8x100000 .f32) (i : Fin 8) : Fin 100000 → EReal := fun j => P (ix2 i j)

/-- The index a reduction along the rows reads: the kept row and the reduced column. -/
theorem lift_row (i : Fin 8) (j : Fin 100000) : reduces_S8x100000_S8.lift (ix1 i) j = ix2 i j := by
  funext c; apply Fin.ext
  match c with
  | ⟨0, _⟩ => rfl
  | ⟨1, _⟩ => rfl

/-- A column of eight read at a row. -/
theorem cast_apply {α : Type} (v : S8.Idx → α) (i : Fin 8) : shapeCast S8x1 v shapeCasts_S8_S8x1 (ix2 i 0) = v (ix1 i) :=
  shapeCast_apply v _ _ _ (by revert i; decide)

/-- A column of eight broadcast along the rows, read at a row. -/
theorem bcast_apply {α : Type} (v : S8x1.Idx → α) (i : Fin 8) (j : Fin 100000) :
    broadcastTo S8x100000 v broadcasts_S8x1_S8x100000 (ix2 i j) = v (ix2 i 0) := by
  refine broadcastTo_apply v _ _ _ fun a => ?_
  match a with
  | ⟨0, _⟩ => rfl
  | ⟨1, _⟩ => rfl

/-- The sum of a row, read at its index. -/
theorem rowSums_apply (P : FVec Ideal S8x100000 .f32) (i : Fin 8) : rowSums P (ix2 i 0) = ∑ j, row P i j := by
  refine (cast_apply _ i).trans ((Ideal.multiReduction_add_single P _ _ _ _ (ix1 i)).trans ?_)
  exact Finset.sum_congr rfl fun j _ => congrArg P (lift_row i j)

/-- The f32 pattern of the reduction's start is `-∞`. -/
theorem ofBits_low : (FloatOps.ofBits .f32 0xFF800000#32 : Ideal .f32) = (⊥ : EReal) := by
  show Ideal.ofBits .f32 0xFF800000#32 = ⊥
  simp [Ideal.ofBits, Ideal.ieee]

section AtRow

variable {P : FVec Ideal S8x100000 .f32} {i : Fin 8} {m : ℝ}

/-- The maximum of a row, read at its index. -/
theorem maxima_apply (h : Fit (row P i) m) : maxima P (ix2 i 0) = (m : EReal) := by
  refine (cast_apply _ i).trans ((Ideal.multiReduction_maximumf_single P _ _ _ _ (ix1 i)).trans ?_)
  rw [ofBits_low, ← h.fold]
  exact congrArg (fun g => Finset.univ.fold max (⊥ : EReal) g) (funext fun j => congrArg P (lift_row i j))

/-- An exponential of the shifted block, read at an index. -/
theorem exps_apply (h : Fit (row P i) m) (j : Fin 100000) :
    exps P (ix2 i j) = Ideal.exp (row P i j - (m : EReal)) := by
  rw [exps, exp_at, sub_at, bcast_apply, maxima_apply h]; rfl

/-- The sum of the exponentials of a row. -/
theorem sums_apply (h : Fit (row P i) m) : rowSums (exps P) (ix2 i 0) = (total (row P i) m : EReal) := by
  rw [rowSums_apply, ← h.sum_exp]
  exact Finset.sum_congr rfl fun j _ => exps_apply h j

/-- The log-sum-exp of a row. -/
theorem lses_apply (h : Fit (row P i) m) : lses P (ix2 i 0) = (logNorm (row P i) m : EReal) := by
  rw [lses, add_at, log_at, maxima_apply h, sums_apply h, h.add_log]

/-- The sum of a row's elements times their exponentials. -/
theorem moments_apply (h : Fit (row P i) m) : rowSums (mulf P (exps P)) (ix2 i 0) = (moment (row P i) m : EReal) := by
  rw [rowSums_apply, ← h.sum_mul_exp]
  refine Finset.sum_congr rfl fun j _ => ?_
  rw [row, mul_at, exps_apply h]; rfl

/-- The entropy of a row. -/
theorem ents_apply (h : Fit (row P i) m) : ents P (ix2 i 0) = (entropy (row P i) m : EReal) := by
  rw [ents, sub_at, div_at, lses_apply h, sums_apply h, moments_apply h, h.sub_div]

/-- The sum of a row with every element but the action's replaced by zero is the action's element. -/
theorem picked_apply (P : FVec Ideal S8x100000 .f32) (i : Fin 8) (A : IVec S8x1 32) (a : Fin 100000)
    (ha : A (ix2 i 0) = BitVec.ofNat 32 a.val) :
    rowSums (select (cmpi .eq (iota .tc S8x100000 32 [1] iota_S8x100000_d1_w32)
      (broadcastTo S8x100000 A broadcasts_S8x1_S8x100000)) P (broadcast S8x100000 (Scalar.ofBits .f32 0x00000000#32)))
      (ix2 i 0) = row P i a := by
  rw [rowSums_apply]
  have key : ∀ j : Fin 100000, row (select (cmpi .eq (iota .tc S8x100000 32 [1] iota_S8x100000_d1_w32)
      (broadcastTo S8x100000 A broadcasts_S8x1_S8x100000)) P (broadcast S8x100000 (Scalar.ofBits .f32 0x00000000#32))) i j
      = if j = a then row P i j else 0 := fun j => by
    rw [row, choose_word_at, iota_single_apply, bcast_apply, ha]
    have hj := j.isLt
    have hb := a.isLt
    refine if_congr ⟨fun e => Fin.ext (ofNat_inj (by omega) (by omega) e), fun e => by rw [e]; rfl⟩ rfl ?_
    exact Ideal.ofBits_zero_f32
  rw [Finset.sum_congr rfl fun j _ => key j, Finset.sum_ite_eq' Finset.univ a, if_pos (Finset.mem_univ _)]

/-- The log-probability of an action inside the row. -/
theorem lps_apply (h : Fit (row P i) m) (A : IVec S8x1 32) (a : Fin 100000) (ha : A (ix2 i 0) = BitVec.ofNat 32 a.val) :
    lps A P (ix2 i 0) = row P i a - (logNorm (row P i) m : EReal) := by
  rw [lps, sub_at, lses_apply h, picked_apply P i A a ha]

/-- The mode of a row: the word of the first index of its maximum. -/
theorem modes_apply (h : Fit (row P i) m) {J : Fin 100000} (hJ : IsFirst (row P i) m J) :
    modes P (ix2 i 0) = BitVec.ofNat 32 J.val := by
  refine (cast_apply _ i).trans ((multiReductionI_eq_fold .minsi _ _ _ _ (ix1 i)).trans ?_)
  rw [reduces_S8x100000_S8.fold_filter_drop_single (IKind.minsi.op) _ _ (ix1 i)]
  have hJl := J.isLt
  have key : ∀ j : Fin 100000, ((select (cmpf .oeq P (broadcastTo S8x100000 (maxima P) broadcasts_S8x1_S8x100000))
      (iota .tc S8x100000 32 [1] iota_S8x100000_d1_w32) (broadcast S8x100000 100000#32)) ∘ reduces_S8x100000_S8.lift (ix1 i)) j
      = if row P i j = (m : EReal) then BitVec.ofNat 32 j.val else BitVec.ofNat 32 100000 := fun j => by
    show select _ _ _ (reduces_S8x100000_S8.lift (ix1 i) j) = _
    rw [lift_row, choose_eq_at, iota_single_apply, bcast_apply, maxima_apply h]; rfl
  refine fold_choice IntOp.minsi Finset.univ _ _ _ J (Finset.mem_univ _) ?_ ?_ fun b _ => ?_
  · exact (key J).trans (if_pos hJ.1)
  · exact minsi_ofNat (b := 2147483647) (by omega) (by omega)
  · change Fin 100000 at b
    have hb := b.isLt
    refine (congrArg (IntOp.minsi _) (key b)).trans ?_
    by_cases e : row P i b = (m : EReal)
    · rw [if_pos e]
      refine minsi_ofNat ?_ (by omega)
      by_contra hc
      exact hJ.2 b (Fin.lt_def.2 (not_le.1 hc)) e
    · rw [if_neg e]; exact minsi_ofNat (by omega) (by omega)

end AtRow

end Cert.Proof.Blk
-- ==== Proof.KernelArrays.lean ====
/-
  What the kernel leaves in its three result arrays. The rows of the logits and the actions are named by the reading
  `Reads` (each row's real maximum, the action's column, the first column of the maximum); under it the three arrays are
  the functions `lpOf`, `entOf`, `modeOf` of the row, whichever grid point and stream computed the row.
-/
module

public import proofs.«01_k».proof.Proof.KernelBlock
public import proofs.«01_k».proof.Proof.Gen.KernelIdeal.Value

@[expose] public section

set_option maxRecDepth 16384

noncomputable section

namespace Cert.Proof.Arr

open Cert.KernelIdeal Cert.KernelIdeal.Gen Idealize.ShloMosaic Idealize.ShloMosaic.TcCoe
open Cert.Proof.Row Cert.Proof.Blk
open Idealize.ShloMosaic.Pipeline (Dat)

/-- One row of the logits. -/
def rowOf (x : FVec Ideal S128x100000 .f32) (r : Fin 128) : Fin 100000 → EReal := fun j => x (ix2 r j)

/-- A reading of the arguments: `top r` is the real maximum of row `r`, `act r` the column that its action names and
    `first r` the first column at which the maximum stands. -/
structure Reads (x : FVec Ideal S128x100000 .f32) (a : IVec S128x1 32) (top : Fin 128 → ℝ) (act first : Fin 128 → Fin 100000) :
    Prop where
  fit : ∀ r, Fit (rowOf x r) (top r)
  act : ∀ r, a (ix2 r 0) = BitVec.ofNat 32 (act r).val
  first : ∀ r, IsFirst (rowOf x r) (top r) (first r)

/-- The log-probabilities of the actions, as an array. -/
def lpOf (x : FVec Ideal S128x100000 .f32) (top : Fin 128 → ℝ) (act : Fin 128 → Fin 100000) : FVec Ideal S128x1 .f32 :=
  fun i => rowOf x (i 0) (act (i 0)) - (logNorm (rowOf x (i 0)) (top (i 0)) : EReal)

/-- The entropies, as an array. -/
def entOf (x : FVec Ideal S128x100000 .f32) (top : Fin 128 → ℝ) : FVec Ideal S128x1 .f32 :=
  fun i => (entropy (rowOf x (i 0)) (top (i 0)) : EReal)

/-- The modes, as an array. -/
def modeOf (first : Fin 128 → Fin 100000) : IVec S128x1 32 := fun i => BitVec.ofNat 32 (first (i 0)).val

/-- Every window's block index at a grid point. -/
theorem idx : ∀ t : Fin cfg0.N,
    (win0_0.index t = ![4 * t.val, 0] ∧ win0_1.index t = ![4 * t.val + 1, 0] ∧ win0_2.index t = ![4 * t.val + 2, 0]
      ∧ win0_3.index t = ![4 * t.val + 3, 0]) ∧ win0_4.index t = ![t.val, 0] ∧ win0_5.index t = ![t.val, 0]
      ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The logits at launch. -/
abbrev X : FVec Ideal S128x100000 .f32 := m ((c : Thread nD τ).loc main_arg0)

/-- The actions at launch. -/
abbrev A : IVec S128x1 32 := m ((c : Thread nD τ).loc main_arg1)

/-- The four streams' blocks at a point. -/
def blocks (t : Fin cfg0.N) : Fin 4 → FVec Ideal S8x100000 .f32 :=
  ![iblk m c 0 t, iblk m c 1 t, iblk m c 2 t, iblk m c 3 t]

/-- Row `i` of stream `n`'s block at point `t` is row `32 t + 8 n + i` of the logits. -/
theorem row_blocks (t : Fin cfg0.N) (n : Fin 4) (i : Fin 8) (r : Fin 128) (hr : r.val = 32 * t.val + 8 * n.val + i.val) :
    row (blocks m c t n) i = rowOf (X m c) r := by
  funext j
  obtain ⟨⟨h0, h1, h2, h3⟩, -⟩ := idx t
  match n with
  | ⟨0, _⟩ =>
    show (iblk m c 0 t : FVec Ideal S8x100000 .f32) (ix2 i j) = X m c (ix2 r j)
    blk_ext [iblk, V, h0]
    dsimp only at hr; omega
  | ⟨1, _⟩ =>
    show (iblk m c 1 t : FVec Ideal S8x100000 .f32) (ix2 i j) = X m c (ix2 r j)
    blk_ext [iblk, V, h1]
    dsimp only at hr; omega
  | ⟨2, _⟩ =>
    show (iblk m c 2 t : FVec Ideal S8x100000 .f32) (ix2 i j) = X m c (ix2 r j)
    blk_ext [iblk, V, h2]
    dsimp only at hr; omega
  | ⟨3, _⟩ =>
    show (iblk m c 3 t : FVec Ideal S8x100000 .f32) (ix2 i j) = X m c (ix2 r j)
    blk_ext [iblk, V, h3]
    dsimp only at hr; omega

/-- The actions' block at a point. -/
abbrev acts (t : Fin cfg0.N) : IVec S32x1 32 := iblk m c 4 t

/-- The four streams' slices of the actions' block at a point. -/
def slices (t : Fin cfg0.N) : Fin 4 → IVec S8x1 32 :=
  ![extractStridedSlice S8x1 ![0, 0] (acts m c t) slices_S32x1_o0_0_S8x1,
    extractStridedSlice S8x1 ![8, 0] (acts m c t) slices_S32x1_o8_0_S8x1,
    extractStridedSlice S8x1 ![16, 0] (acts m c t) slices_S32x1_o16_0_S8x1,
    extractStridedSlice S8x1 ![24, 0] (acts m c t) slices_S32x1_o24_0_S8x1]

/-- Row `q` of the actions' block at point `t` is row `32 t + q` of the actions. -/
theorem acts_apply (t : Fin cfg0.N) (q : Fin 32) (r : Fin 128) (hr : r.val = 32 * t.val + q.val) :
    acts m c t (ix2 q 0) = A m c (ix2 r 0) := by
  obtain ⟨-, h4, -⟩ := idx t
  show (iblk m c 4 t : IVec S32x1 32) (ix2 q 0) = A m c (ix2 r 0)
  blk_ext [iblk, V, h4]

/-- A slice of eight rows of the actions' block, from row `o`. -/
theorem slice_apply (B : IVec S32x1 32) (o : ℕ) (h : S32x1.Slices ![o, 0] S8x1) (i : Fin 8) (q : Fin 32)
    (hq : q.val = o + i.val) : extractStridedSlice S8x1 ![o, 0] B h (ix2 i 0) = B (ix2 q 0) := by
  refine extractStridedSlice_apply _ _ _ _ _ fun a => ?_
  match a with
  | ⟨0, _⟩ => exact hq
  | ⟨1, _⟩ => rfl

/-- Row `i` of stream `n`'s actions at point `t` is row `32 t + 8 n + i` of the actions. -/
theorem slices_apply (t : Fin cfg0.N) (n : Fin 4) (i : Fin 8) (r : Fin 128)
    (hr : r.val = 32 * t.val + 8 * n.val + i.val) : slices m c t n (ix2 i 0) = A m c (ix2 r 0) := by
  have hi := i.isLt
  have hn := n.isLt
  refine Eq.trans ?_ (acts_apply m c t ⟨8 * n.val + i.val, by omega⟩ r (by dsimp only; omega))
  match n with
  | ⟨0, _⟩ => exact slice_apply (acts m c t) 0 slices_S32x1_o0_0_S8x1 i ⟨0 + i.val, by omega⟩ rfl
  | ⟨1, _⟩ => exact slice_apply (acts m c t) 8 slices_S32x1_o8_0_S8x1 i ⟨8 + i.val, by omega⟩ rfl
  | ⟨2, _⟩ => exact slice_apply (acts m c t) 16 slices_S32x1_o16_0_S8x1 i ⟨16 + i.val, by omega⟩ rfl
  | ⟨3, _⟩ => exact slice_apply (acts m c t) 24 slices_S32x1_o24_0_S8x1 i ⟨24 + i.val, by omega⟩ rfl

/-- The maxima that the body keeps of the second stream are those of the loaded block. -/
theorem kept_maxima (P0 P1 P2 P3 : FVec Ideal S8x100000 .f32) (B : IVec S32x1 32) :
    k0_pay31 (F := Ideal) P0 P1 P2 P3 B = k0_pay16 P1 := by
  rw [k0_pay31, View.ld_unit_lit]
  decide

/-- The sums that the body keeps of the second stream are those of the loaded block. -/
theorem kept_sums (P0 P1 P2 P3 : FVec Ideal S8x100000 .f32) (B : IVec S32x1 32) :
    k0_pay32 (F := Ideal) P0 P1 P2 P3 B = k0_pay18 P1 := by
  rw [k0_pay32, View.ld_unit_lit]
  decide

/-- The row of the array at which a row of a point's block stands, and the stream and row that compute it. -/
theorem place (t : Fin cfg0.N) (y : S32x1.Idx) (r : Fin 128) (hr : r.val = t.val * 32 + (y 0).val) :
    ∃ (n : Fin 4) (i : Fin 8), (y 0).val / 8 = n.val ∧ (y 0).val % 8 = i.val ∧ r.val = 32 * t.val + 8 * n.val + i.val := by
  have hy : (y 0).val < 32 := (y 0).isLt
  exact ⟨⟨(y 0).val / 8, by omega⟩, ⟨(y 0).val % 8, by omega⟩, rfl, rfl, by dsimp only; omega⟩

section Results

variable {m c} {top : Fin 128 → ℝ} {act first : Fin 128 → Fin 100000} (R : Reads (X m c) (A m c) top act first)
include R

/-- The first result array after the run holds the log-probabilities of the actions. -/
theorem arr5 : (dats m 0 c).arrAt 5 cfg0.N = lpOf (X m c) top act := by
  refine (dats m 0 c).arrAt_eq_of_covers 5 _ (by decide +kernel) fun t hf y => ?_
  blk_simp
  rw [after0_5]
  frame_out
  change S32x1.Idx at y
  obtain ⟨-, -, h5, -⟩ := idx t
  generalize he : ((win0_5.blk t).view.emb y : S128x1.Idx) = e
  have hr : (e 0).val = t.val * 32 + (y 0).val := by rw [← he]; blk_simp [h5]
  obtain ⟨n, i, hn, hi, h⟩ := place t y (e 0) hr
  rw [kept_maxima, kept_sums]
  refine (congrFun (pay5_eq (acts m c t) (iblk m c 0 t) (iblk m c 1 t) (iblk m c 2 t) (iblk m c 3 t)) y).trans ?_
  refine (stack_apply (fun n => lps (slices m c t n) (blocks m c t n)) y n i hn hi).trans ?_
  have e1 := row_blocks m c t n i (e 0) h
  refine (lps_apply (m := top (e 0)) (by rw [e1]; exact R.fit _) _ (act (e 0))
    ((slices_apply m c t n i (e 0) h).trans (R.act _))).trans ?_
  rw [e1]; rfl

/-- The second result array after the run holds the entropies. -/
theorem arr6 : (dats m 0 c).arrAt 6 cfg0.N = entOf (X m c) top := by
  refine (dats m 0 c).arrAt_eq_of_covers 6 _ (by decide +kernel) fun t hf y => ?_
  blk_simp
  rw [after0_6]
  frame_out
  change S32x1.Idx at y
  obtain ⟨-, -, -, h6, -⟩ := idx t
  generalize he : ((win0_6.blk t).view.emb y : S128x1.Idx) = e
  have hr : (e 0).val = t.val * 32 + (y 0).val := by rw [← he]; blk_simp [h6]
  obtain ⟨n, i, hn, hi, h⟩ := place t y (e 0) hr
  rw [kept_maxima, kept_sums]
  refine (congrFun (pay6_eq (iblk m c 0 t) (iblk m c 1 t) (iblk m c 2 t) (iblk m c 3 t)) y).trans ?_
  refine (stack_apply (fun n => ents (blocks m c t n)) y n i hn hi).trans ?_
  have e1 := row_blocks m c t n i (e 0) h
  refine (ents_apply (m := top (e 0)) (by rw [e1]; exact R.fit _)).trans ?_
  rw [e1]; rfl

/-- The third result array after the run holds the modes. -/
theorem arr7 : (dats m 0 c).arrAt 7 cfg0.N = modeOf first := by
  refine (dats m 0 c).arrAt_eq_of_covers 7 _ (by decide +kernel) fun t hf y => ?_
  blk_simp
  rw [after0_7]
  frame_out
  change S32x1.Idx at y
  obtain ⟨-, -, -, -, h7⟩ := idx t
  generalize he : ((win0_7.blk t).view.emb y : S128x1.Idx) = e
  have hr : (e 0).val = t.val * 32 + (y 0).val := by rw [← he]; blk_simp [h7]
  obtain ⟨n, i, hn, hi, h⟩ := place t y (e 0) hr
  rw [kept_maxima]
  refine (congrFun (pay7_eq (iblk m c 0 t) (iblk m c 1 t) (iblk m c 2 t) (iblk m c 3 t)) y).trans ?_
  refine (stack_apply (fun n => modes (blocks m c t n)) y n i hn hi).trans ?_
  have e1 := row_blocks m c t n i (e 0) h
  exact modes_apply (m := top (e 0)) (by rw [e1]; exact R.fit _) (by rw [e1]; exact R.first _)

end Results

end Cert.Proof.Arr
-- ==== Proof.ReferenceRun.lean ====
/-
  The reference's run. `@main` of `Cert.ReferenceIdeal` is a straight line of host operations once its three local
  functions are unfolded at their calls (`ops`, `main_eq`); its run ends with every buffer at the fold of those operations
  over the launch contents (`run_main`), and the three results are named functions of the two arguments (`outLp`,
  `outEnt`, `outMode`), spelled by the shared intermediate values of the reference: the row maximum, the safe shift, the
  sum of exponentials, the log-sum-exp, the log-probabilities.
-/
module

public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen Idealize.ShloMosaic Idealize.ShloMosaic.TcCoe Idealize.ShloMosaic.StableHlo
open Idealize.SL.Sem

variable {F : FTy → Type} [FloatOps F]

/-- The maximum of each row of the logits, as a column. -/
def top (x : FVec F S128x100000 .f32) : FVec F S128x1 .f32 :=
  broadcastInDim S128x1 ![0] bcast_S128_S128x1_0
    (Host.reduce FloatOps.maximumf x (constant S_ .f32 0xFF800000#32) reducesTo_S128x100000_S128_d1 h_S_)

/-- The shift of each row: its maximum where that is finite, zero elsewhere. -/
def shift (x : FVec F S128x100000 .f32) : FVec F S128x1 .f32 :=
  select (cmpf .olt (Host.absf (top x)) (broadcastInDim S128x1 ![] bcast_S_S128x1 (constant S_ .f32 0x7F800000#32)))
    (top x) (broadcastInDim S128x1 ![] bcast_S_S128x1 (constant S_ .f32 0x00000000#32))

/-- The sum of the exponentials of each shifted row, as a column. -/
def sums (x : FVec F S128x100000 .f32) : FVec F S128x1 .f32 :=
  broadcastInDim S128x1 ![0] bcast_S128_S128x1_0
    (Host.reduceAdd (Host.exp (subf x (broadcastInDim S128x100000 ![0, 1] bcast_S128x1_S128x100000_0_1 (shift x))))
      (constant S_ .f32 0x00000000#32) reducesTo_S128x100000_S128_d1 h_S_)

/-- The log-sum-exp of each row, as a column. -/
def lse (x : FVec F S128x100000 .f32) : FVec F S128x1 .f32 := addf (Host.log (sums x)) (shift x)

/-- The log-probabilities. -/
def logp (x : FVec F S128x100000 .f32) : FVec F S128x100000 .f32 :=
  subf x (broadcastInDim S128x100000 ![0, 1] bcast_S128x1_S128x100000_0_1 (lse x))

/-- The actions as gather indices: a negative one counted from the end of the row. -/
def wrapped (a : IVec S128x1 32) : IVec S128x1x1 32 :=
  shapeCast S128x1x1
    (select (cmpi .slt a (broadcastInDim S128x1 ![] bcast_S_S128x1 (constantI S_ 32 0#32)))
      (addi a (broadcastInDim S128x1 ![] bcast_S_S128x1 (constantI S_ 32 100000#32))) a)
    shapeCasts_S128x1_S128x1x1

/-- Whether each gather index names a column. -/
def inRange (a : IVec S128x1 32) : IVec S128x1 1 :=
  Host.reduce IntOp.andi
    (andi (cmpi .sge (wrapped a) (broadcastInDim S128x1x1 ![] bcast_S_S128x1x1 (constantI S_ 32 0#32)))
      (cmpi .sle (wrapped a) (broadcastInDim S128x1x1 ![0, 1, 2] bcast_S1x1x1_S128x1x1_0_1_2
        (broadcastInDim S1x1x1 ![2] bcast_S1_S1x1x1_2 (constantI S1 32 99999#32)))))
    (constantI S_ 1 1#1) reducesTo_S128x1x1_S128x1_d2 h_S_

/-- The log-probability of each row's action. -/
def taken (x : FVec F S128x100000 .f32) (a : IVec S128x1 32) : FVec F S128x1 .f32 :=
  select (inRange a) (Host.gather gather_S128x100000_S128x1x1_S128x1_n_1_0_0_1_2_11 (logp x) (wrapped a))
    (broadcastInDim S128x1 ![] bcast_S_S128x1 (constant S_ .f32 0x7FC00000#32))

/-- The first result: the taken log-probabilities summed over their one column. -/
def outLp (x : FVec F S128x100000 .f32) (a : IVec S128x1 32) : FVec F S128x1 .f32 :=
  broadcastInDim S128x1 ![0] bcast_S128_S128x1_0
    (Host.reduceAdd (taken x a) (constant S_ .f32 0x00000000#32) reducesTo_S128x1_S128_d1 h_S_)

/-- The second result: the entropy of each row. -/
def outEnt (x : FVec F S128x100000 .f32) : FVec F S128x1 .f32 :=
  broadcastInDim S128x1 ![0] bcast_S128_S128x1_0
    (Host.negf (Host.reduceAdd (mulf (Host.exp (logp x)) (logp x)) (constant S_ .f32 0x00000000#32)
      reducesTo_S128x100000_S128_d1 h_S_))

/-- The third result: the column of each row's largest probability. -/
def outMode (x : FVec F S128x100000 .f32) : IVec S128x1 32 :=
  broadcastInDim S128x1 ![0] bcast_S128_S128x1_0 (fun j =>
    (Host.argReduce reducer_argmax_f32_i32 (Host.exp (logp x)) (iotaInDim S128x100000 32 1)
      (constant S_ .f32 0xFF800000#32) (constantI S_ 32 0#32) reducesTo_S128x100000_S128_d1 h_S_ j).2)

/-- The operations of `@main` in order, the three local functions' own at their calls. -/
abbrev ops : List (HloOp τ sig (Elt F)) :=
  [ nullary main_cst (constant S_ .f32 0xFF800000#32),
    binary main_arg0 main_cst main_v0 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v0 main_v1 (broadcastInDim S128x1 ![0] bcast_S128_S128x1_0 : (⟨S128, .f32⟩ : BufTy).Contents (Elt F) → (⟨S128x1, .f32⟩ : BufTy).Contents (Elt F)),
    unary main_v1 main_v2 (Host.absf : (⟨S128x1, .f32⟩ : BufTy).Contents (Elt F) → (⟨S128x1, .f32⟩ : BufTy).Contents (Elt F)),
    nullary main_cst_0 (constant S_ .f32 0x7F800000#32),
    unary main_cst_0 main_v3 (broadcastInDim S128x1 ![] bcast_S_S128x1 : (⟨S_, .f32⟩ : BufTy).Contents (Elt F) → (⟨S128x1, .f32⟩ : BufTy).Contents (Elt F)),
    binary main_v2 main_v3 main_v4 (cmpf .olt : (⟨S128x1, .f32⟩ : BufTy).Contents (Elt F) → (⟨S128x1, .f32⟩ : BufTy).Contents (Elt F) → (⟨S128x1, .i1⟩ : BufTy).Contents (Elt F)),
    nullary main_cst_1 (constant S_ .f32 0x00000000#32),
    unary main_cst_1 main_call0_v0 (id : (⟨S_, .f32⟩ : BufTy).Contents (Elt F) → (⟨S_, .f32⟩ : BufTy).Contents (Elt F)),
    unary main_call0_v0 main_call0_v1 (broadcastInDim S128x1 ![] bcast_S_S128x1 : (⟨S_, .f32⟩ : BufTy).Contents (Elt F) → (⟨S128x1, .f32⟩ : BufTy).Contents (Elt F)),
    ternary main_v4 main_v1 main_call0_v1 main_v5 (select : (⟨S128x1, .i1⟩ : BufTy).Contents (Elt F) → (⟨S128x1, .f32⟩ : BufTy).Contents (Elt F) → (⟨S128x1, .f32⟩ : BufTy).Contents (Elt F) → (⟨S128x1, .f32⟩ : BufTy).Contents (Elt F)),
    unary main_v5 main_v6 (broadcastInDim S128x100000 ![0, 1] bcast_S128x1_S128x100000_0_1 : (⟨S128x1, .f32⟩ : BufTy).Contents (Elt F) → (⟨S128x100000, .f32⟩ : BufTy).Contents (Elt F)),
    binary main_arg0 main_v6 main_v7 (subf : (⟨S128x100000, .f32⟩ : BufTy).Contents (Elt F) → (⟨S128x100000, .f32⟩ : BufTy).Contents (Elt F) → (⟨S128x100000, .f32⟩ : BufTy).Contents (Elt F)),
    unary main_v7 main_v8 (Host.exp : (⟨S128x100000, .f32⟩ : BufTy).Contents (Elt F) → (⟨S128x100000, .f32⟩ : BufTy).Contents (Elt F)),
    nullary main_cst_2 (constant S_ .f32 0x00000000#32),
    binary main_v8 main_cst_2 main_v9 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v9 main_v10 (broadcastInDim S128x1 ![0] bcast_S128_S128x1_0 : (⟨S128, .f32⟩ : BufTy).Contents (Elt F) → (⟨S128x1, .f32⟩ : BufTy).Contents (Elt F)),
    unary main_v10 main_v11 (Host.log : (⟨S128x1, .f32⟩ : BufTy).Contents (Elt F) → (⟨S128x1, .f32⟩ : BufTy).Contents (Elt F)),
    binary main_v11 main_v5 main_v12 (addf : (⟨S128x1, .f32⟩ : BufTy).Contents (Elt F) → (⟨S128x1, .f32⟩ : BufTy).Contents (Elt F) → (⟨S128x1, .f32⟩ : BufTy).Contents (Elt F)),
    unary main_v12 main_v13 (broadcastInDim S128x100000 ![0, 1] bcast_S128x1_S128x100000_0_1 : (⟨S128x1, .f32⟩ : BufTy).Contents (Elt F) → (⟨S128x100000, .f32⟩ : BufTy).Contents (Elt F)),
    binary main_arg0 main_v13 main_v14 (subf : (⟨S128x100000, .f32⟩ : BufTy).Contents (Elt F) → (⟨S128x100000, .f32⟩ : BufTy).Contents (Elt F) → (⟨S128x100000, .f32⟩ : BufTy).Contents (Elt F)),
    unary main_v14 main_v15 (Host.exp : (⟨S128x100000, .f32⟩ : BufTy).Contents (Elt F) → (⟨S128x100000, .f32⟩ : BufTy).Contents (Elt F)),
    TRef.nullary main_call1.c (constantI S_ 32 0#32),
    TRef.unary main_call1.c main_call1.v0 (broadcastInDim S128x1 ![] bcast_S_S128x1),
    TRef.binary (.of main_arg1) main_call1.v0 main_call1.v1 (cmpi .slt),
    TRef.nullary main_call1.c_0 (constantI S_ 32 100000#32),
    TRef.unary main_call1.c_0 main_call1.v2 (broadcastInDim S128x1 ![] bcast_S_S128x1),
    TRef.binary (.of main_arg1) main_call1.v2 main_call1.v3 addi,
    TRef.ternary main_call1.v1 main_call1.v3 (.of main_arg1) main_call1.v4 select,
    TRef.reshape main_call1.v4 main_call1.v5 (rfl : (.i32 : EltTy) = .i32) shapeCasts_S128x1_S128x1x1,
    TRef.nullary main_call1.c_1 (constantI S1 32 99999#32),
    TRef.nullary main_call1.c_2 (constantI S_ 32 0#32),
    TRef.unary main_call1.c_2 main_call1.v6 (broadcastInDim S128x1x1 ![] bcast_S_S128x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S128x1x1 ![0, 1, 2] bcast_S1x1x1_S128x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S128x1x1_S128x1_d2 h_S_),
    TRef.binary (.of main_v14) main_call1.v5 main_call1.v13 (fun x i => Host.gather gather_S128x100000_S128x1x1_S128x1_n_1_0_0_1_2_11 x i),
    TRef.nullary main_call1.cst (constant S_ .f32 0x7FC00000#32),
    TRef.unary main_call1.cst main_call1.v14 (broadcastInDim S128x1 ![] bcast_S_S128x1),
    TRef.ternary main_call1.v12 main_call1.v13 main_call1.v14 main_call1.v15 select,
    nullary main_cst_3 (constant S_ .f32 0x00000000#32),
    binary main_v16 main_cst_3 main_v17 ((fun x v => Host.reduceAdd x v reducesTo_S128x1_S128_d1 h_S_) : (⟨S128x1, .f32⟩ : BufTy).Contents (Elt F) → (⟨S_, .f32⟩ : BufTy).Contents (Elt F) → (⟨S128, .f32⟩ : BufTy).Contents (Elt F)),
    unary main_v17 main_v18 (broadcastInDim S128x1 ![0] bcast_S128_S128x1_0 : (⟨S128, .f32⟩ : BufTy).Contents (Elt F) → (⟨S128x1, .f32⟩ : BufTy).Contents (Elt F)),
    binary main_v15 main_v14 main_v19 (mulf : (⟨S128x100000, .f32⟩ : BufTy).Contents (Elt F) → (⟨S128x100000, .f32⟩ : BufTy).Contents (Elt F) → (⟨S128x100000, .f32⟩ : BufTy).Contents (Elt F)),
    nullary main_cst_4 (constant S_ .f32 0x00000000#32),
    binary main_v19 main_cst_4 main_v20 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v20 main_v21 (Host.negf : (⟨S128, .f32⟩ : BufTy).Contents (Elt F) → (⟨S128, .f32⟩ : BufTy).Contents (Elt F)),
    unary main_v21 main_v22 (broadcastInDim S128x1 ![0] bcast_S128_S128x1_0 : (⟨S128, .f32⟩ : BufTy).Contents (Elt F) → (⟨S128x1, .f32⟩ : BufTy).Contents (Elt F)),
    TRef.nullary main_call2.v0 (iotaInDim S128x100000 32 1),
    TRef.nullary main_call2.cst (constant S_ .f32 0xFF800000#32),
    TRef.nullary main_call2.c (constantI S_ 32 0#32),
    TRef.quaternary (.of main_v15) main_call2.v0 main_call2.cst main_call2.c main_call2.v1_0 (fun x y u v j => (Host.argReduce reducer_argmax_f32_i32 x y u v reducesTo_S128x100000_S128_d1 h_S_ j).1),
    TRef.quaternary (.of main_v15) main_call2.v0 main_call2.cst main_call2.c main_call2.v1_1 (fun x y u v j => (Host.argReduce reducer_argmax_f32_i32 x y u v reducesTo_S128x100000_S128_d1 h_S_ j).2),
    unary main_v23 main_v24 (broadcastInDim S128x1 ![0] bcast_S128_S128x1_0 : (⟨S128, .i32⟩ : BufTy).Contents (Elt F) → (⟨S128x1, .i32⟩ : BufTy).Contents (Elt F)) ]

/-- The first local function at its call: zero made a column, then the choice by the mask. -/
theorem where_eq : fn_where.body (F := F) (.of main_v4) (.of main_v1) (.of main_cst_1) main_call0 = (do
    hlo rfl (unary main_cst_1 main_call0_v0 (id : (⟨S_, .f32⟩ : BufTy).Contents (Elt F) → (⟨S_, .f32⟩ : BufTy).Contents (Elt F))) (fun _ => .ret ⟨⟩)
    hlo rfl (unary main_call0_v0 main_call0_v1 (broadcastInDim S128x1 ![] bcast_S_S128x1 : (⟨S_, .f32⟩ : BufTy).Contents (Elt F) → (⟨S128x1, .f32⟩ : BufTy).Contents (Elt F))) (fun _ => .ret ⟨⟩)
    hlo rfl (ternary main_v4 main_v1 main_call0_v1 main_v5 (select : (⟨S128x1, .i1⟩ : BufTy).Contents (Elt F) → (⟨S128x1, .f32⟩ : BufTy).Contents (Elt F) → (⟨S128x1, .f32⟩ : BufTy).Contents (Elt F) → (⟨S128x1, .f32⟩ : BufTy).Contents (Elt F))) (fun _ => .ret ⟨⟩)
    pure ⟨⟩) := rfl

set_option maxRecDepth 8192 in
/-- `@main` is that straight line. -/
theorem main_eq (c : Dev nD) : main (F := F) c = seq ops := by
  simp only [main, where_eq, fn_take_along_axis.body, fn_argmax.body, seq, bind_assoc, pure_bind]

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

/-- Every operation names buffers of the TensorCore. -/
theorem ops_sub : (ops : List (HloOp τ sig (Elt F))).Forall fun op => op.bufs ⊆ tcRefs τ sig :=
  ⟨nullary_bufs_sub .., binary_bufs_sub .., unary_bufs_sub .., unary_bufs_sub .., nullary_bufs_sub ..,
    unary_bufs_sub .., binary_bufs_sub .., nullary_bufs_sub .., unary_bufs_sub .., unary_bufs_sub ..,
    ternary_bufs_sub .., unary_bufs_sub .., binary_bufs_sub .., unary_bufs_sub .., nullary_bufs_sub ..,
    binary_bufs_sub .., unary_bufs_sub .., unary_bufs_sub .., binary_bufs_sub .., unary_bufs_sub ..,
    binary_bufs_sub .., unary_bufs_sub .., nullary_bufs_sub .., unary_bufs_sub .., binary_bufs_sub ..,
    nullary_bufs_sub .., unary_bufs_sub .., binary_bufs_sub .., ternary_bufs_sub .., reshape_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., nullary_bufs_sub .., unary_bufs_sub .., ternary_bufs_sub .., nullary_bufs_sub ..,
    binary_bufs_sub .., unary_bufs_sub .., binary_bufs_sub .., nullary_bufs_sub .., binary_bufs_sub ..,
    unary_bufs_sub .., unary_bufs_sub .., nullary_bufs_sub .., nullary_bufs_sub .., nullary_bufs_sub ..,
    quaternary_bufs_sub .., quaternary_bufs_sub .., unary_bufs_sub ..⟩

set_option maxRecDepth 8192 in
/-- The first argument is no operation's result. -/
theorem arg0_eq (V : Valuation τ sig (Elt F)) :
    after ops V (main_arg0 : DevRef τ sig) = V (main_arg0 : DevRef τ sig) := by
  simp only [after_cons, after_nil]
  rfl

set_option maxRecDepth 8192 in
/-- The second argument is no operation's result. -/
theorem arg1_eq (V : Valuation τ sig (Elt F)) :
    after ops V (main_arg1 : DevRef τ sig) = V (main_arg1 : DevRef τ sig) := by
  simp only [after_cons, after_nil]
  rfl

set_option maxRecDepth 8192 in
/-- The fold leaves `outLp` of the arguments at the first result. -/
theorem lp_eq (V : Valuation τ sig (Elt F)) :
    after ops V (main_v18 : DevRef τ sig) = outLp (V (main_arg0 : DevRef τ sig)) (V (main_arg1 : DevRef τ sig)) := by
  after_results_simp
  rfl

set_option maxRecDepth 8192 in
/-- The fold leaves `outEnt` of the logits at the second result. -/
theorem ent_eq (V : Valuation τ sig (Elt F)) :
    after ops V (main_v22 : DevRef τ sig) = outEnt (V (main_arg0 : DevRef τ sig)) := by
  after_results_simp
  rfl

set_option maxRecDepth 8192 in
/-- The fold leaves `outMode` of the logits at the third result. -/
theorem mode_eq (V : Valuation τ sig (Elt F)) :
    after ops V (main_v24 : DevRef τ sig) = outMode (V (main_arg0 : DevRef τ sig)) := by
  after_results_simp
  rfl

/-- The reference's run: it ends with every TensorCore buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's run at its three results and two arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = outLp (m ((c.tc : Thread nD τ).loc main_arg0)) (m ((c.tc : Thread nD τ).loc main_arg1))
      ∧ r.2.mem ((c.tc : Thread nD τ).loc main_v22) = outEnt (m ((c.tc : Thread nD τ).loc main_arg0))
      ∧ r.2.mem ((c.tc : Thread nD τ).loc main_v24) = outMode (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v18).trans (lp_eq _), (h c main_v22).trans (ent_eq _), (h c main_v24).trans (mode_eq _),
      (h c main_arg0).trans (arg0_eq _), (h c main_arg1).trans (arg1_eq _)⟩)
    (run_main m ρ)

/-- The reference ends with its arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono
    (fun r h => ⟨fun c => ⟨(h c).2.2.2.1, (h c).2.2.2.2⟩, sem_eq_zero_of_no_sems (by decide) r.2⟩) (run m ρ)

end Cert.Proof.Ref

end
-- ==== Proof.ReferenceValues.lean ====
/-
  What the reference computes. Under a reading `Reads` of the two arguments (each row's real maximum, the action's
  column, the first column of the maximum) the reference's three results are the same functions `lpOf`, `entOf`, `modeOf`
  of the rows that the kernel's arrays hold.
-/
module

public import proofs.«01_k».proof.Proof.ReferenceRun
public import proofs.«01_k».proof.Proof.KernelArrays
public import Idealize.ShloMosaic.Lib.ReduceAll

@[expose] public section

set_option maxRecDepth 16384

noncomputable section

namespace Cert.Proof.Ref

open Cert.ReferenceIdeal Cert.ReferenceIdeal.Gen Idealize.ShloMosaic
open Cert.Proof.Row
open Cert.Proof.Arr (rowOf Reads lpOf entOf modeOf)
open Cert.Proof.Blk (add_at sub_at mul_at ofBits_low)

/-! ## Reading the operations at an index -/

section Pointwise

variable {s : Shape}

/-- The host's exponential at an index. -/
theorem hostExp_at (a : FVec Ideal s .f32) (j : s.Idx) : Host.exp a j = Ideal.exp (a j) := rfl

/-- The host's logarithm at an index. -/
theorem hostLog_at (a : FVec Ideal s .f32) (j : s.Idx) : Host.log a j = Ideal.log (a j) := rfl

/-- The host's negation at an index. -/
theorem hostNeg_at (a : FVec Ideal s .f32) (j : s.Idx) : Host.negf a j = (-(a j : EReal) : EReal) := rfl

/-- A choice by whether the absolute value of one array lies below another, at an index. -/
theorem choose_abs_lt_at (a b x y : FVec Ideal s .f32) (j : s.Idx) :
    select (cmpf .olt (Host.absf a) b) x y j = if max (a j : EReal) (-(a j : EReal)) < (b j : EReal) then x j else y j := by
  show (if BitVec.ofBool (decide (max (a j : EReal) (-(a j : EReal)) < (b j : EReal))) = 1#1 then x j else y j) = _
  by_cases e : max (a j : EReal) (-(a j : EReal)) < (b j : EReal) <;> simp [e]

end Pointwise

/-- The f32 pattern that bounds the finite numbers is `+∞`. -/
theorem ofBits_high : (FloatOps.ofBits .f32 0x7F800000#32 : Ideal .f32) = (⊤ : EReal) := by
  show Ideal.ofBits .f32 0x7F800000#32 = ⊤
  simp [Ideal.ofBits, Ideal.ieee]

/-- The reduction along the rows of the logits. -/
theorem along : S128x100000.Reduces [1] S128 := by decide

/-- The reduction along the rows of a column. -/
theorem alongColumn : S128x1.Reduces [1] S128 := by decide

/-- Row `r` with the column `j` inserted. -/
theorem along_lift (r : Fin 128) (j : Fin 100000) : along.lift (ix1 r) j = ix2 r j := by
  funext c; apply Fin.ext
  match c with
  | ⟨0, _⟩ => rfl
  | ⟨1, _⟩ => rfl

/-- Row `r` of a column with its one place inserted. -/
theorem alongColumn_lift (r : Fin 128) (j : Fin 1) : alongColumn.lift (ix1 r) j = ix2 r 0 := by
  funext c; apply Fin.ext
  match c with
  | ⟨0, _⟩ => rfl
  | ⟨1, _⟩ => exact congrArg Fin.val (Subsingleton.elim j (0 : Fin 1))

/-- Every index of a column is a row at column zero. -/
theorem eq_row (i : S128x1.Idx) : i = ix2 (i 0) 0 := by
  funext c; apply Fin.ext
  match c with
  | ⟨0, _⟩ => rfl
  | ⟨1, _⟩ => exact congrArg Fin.val (Subsingleton.elim (α := Fin 1) (i 1) 0)

/-- A vector of 128 made a column, read at a row. -/
theorem column_apply {α : Type} (v : S128.Idx → α) (r : Fin 128) :
    broadcastInDim S128x1 ![0] bcast_S128_S128x1_0 v (ix2 r 0) = v (ix1 r) := by
  refine broadcastInDim_apply _ _ v _ _ fun a => ?_
  match a with
  | ⟨0, _⟩ => rfl

/-- A column spread along the rows, read at an index. -/
theorem spread_apply {α : Type} (v : S128x1.Idx → α) (r : Fin 128) (j : Fin 100000) :
    broadcastInDim S128x100000 ![0, 1] bcast_S128x1_S128x100000_0_1 v (ix2 r j) = v (ix2 r 0) := by
  refine broadcastInDim_apply _ _ v _ _ fun a => ?_
  match a with
  | ⟨0, _⟩ => rfl
  | ⟨1, _⟩ => rfl

/-- A sum along the rows from zero, read at a row. -/
theorem sum_apply (v : FVec Ideal S128x100000 .f32) (r : Fin 128) :
    Host.reduceAdd v (constant S_ .f32 0x00000000#32) reducesTo_S128x100000_S128_d1 h_S_ (ix1 r)
      = ∑ j : Fin 100000, (v (ix2 r j) : EReal) := by
  refine (Ideal.hostReduceAdd_single reducesTo_S128x100000_S128_d1 along v _ (ix1 r)).trans ?_
  have hz : (constant (F := Ideal) S_ .f32 0x00000000#32 (Shape.Idx.first h_S_) : EReal) = 0 := Ideal.ofBits_zero_f32
  rw [hz, zero_add]
  exact Finset.sum_congr rfl fun j _ => congrArg v (along_lift r j)

/-- A sum of a column's one place from zero. -/
theorem sumColumn_apply (v : FVec Ideal S128x1 .f32) (r : Fin 128) :
    Host.reduceAdd v (constant S_ .f32 0x00000000#32) reducesTo_S128x1_S128_d1 h_S_ (ix1 r) = v (ix2 r 0) := by
  refine (Ideal.hostReduceAdd_single reducesTo_S128x1_S128_d1 alongColumn v _ (ix1 r)).trans ?_
  have hz : (constant (F := Ideal) S_ .f32 0x00000000#32 (Shape.Idx.first h_S_) : EReal) = 0 := Ideal.ofBits_zero_f32
  rw [hz, zero_add]
  exact (Fin.sum_univ_one _).trans (congrArg v (alongColumn_lift r 0))

/-! ## The log-probabilities and the entropy -/

section Rows

variable {x : FVec Ideal S128x100000 .f32} {r : Fin 128} {m : ℝ}

/-- The row maximum. -/
theorem top_apply (h : Fit (rowOf x r) m) : top x (ix2 r 0) = (m : EReal) := by
  refine (column_apply _ r).trans ?_
  refine (Host.reduce_eq_fold_single (FloatOps.maximumf (F := Ideal) (φ := .f32)) x _ reducesTo_S128x100000_S128_d1 along h_S_
    (ix1 r)).trans ?_
  rw [← h.fold]
  have hl : (constant (F := Ideal) S_ .f32 0xFF800000#32 (Shape.Idx.first h_S_) : EReal) = ⊥ := ofBits_low
  rw [hl]
  exact congrArg (fun g => Finset.univ.fold max (⊥ : EReal) g) (funext fun j => congrArg x (along_lift r j))

/-- The shift is the row maximum: that maximum is finite. -/
theorem shift_apply (h : Fit (rowOf x r) m) : shift x (ix2 r 0) = (m : EReal) := by
  refine (choose_abs_lt_at _ _ _ _ _).trans ?_
  have hb : (broadcastInDim S128x1 ![] bcast_S_S128x1 (constant (F := Ideal) S_ .f32 0x7F800000#32) (ix2 r 0) : EReal) = ⊤ :=
    ofBits_high
  rw [top_apply h, hb, if_pos]
  exact max_lt (EReal.coe_lt_top m) (by rw [← EReal.coe_neg]; exact EReal.coe_lt_top _)

/-- The sum of the exponentials of the shifted row. -/
theorem sums_apply (h : Fit (rowOf x r) m) : sums x (ix2 r 0) = (total (rowOf x r) m : EReal) := by
  refine (column_apply _ r).trans ((sum_apply _ r).trans ?_)
  rw [← h.sum_exp]
  refine Finset.sum_congr rfl fun j _ => ?_
  rw [hostExp_at, sub_at, spread_apply, shift_apply h]; rfl

/-- The log-sum-exp of a row. -/
theorem lse_apply (h : Fit (rowOf x r) m) : lse x (ix2 r 0) = (logNorm (rowOf x r) m : EReal) := by
  rw [lse, add_at, hostLog_at, sums_apply h, shift_apply h, h.log_add]

/-- A log-probability. -/
theorem logp_apply (h : Fit (rowOf x r) m) (j : Fin 100000) :
    logp x (ix2 r j) = (rowOf x r j - (logNorm (rowOf x r) m : EReal) : EReal) := by
  rw [logp, sub_at, spread_apply, lse_apply h]; rfl

/-- The entropy of a row. -/
theorem outEnt_apply (h : Fit (rowOf x r) m) : outEnt x (ix2 r 0) = (entropy (rowOf x r) m : EReal) := by
  refine (column_apply _ r).trans ?_
  rw [hostNeg_at, sum_apply, ← h.neg_sum]
  refine congrArg Neg.neg (Finset.sum_congr rfl fun j _ => ?_)
  rw [mul_at, hostExp_at, logp_apply h]

end Rows

/-! ## The log-probability of the action -/

section Action

variable {a : IVec S128x1 32} {r : Fin 128} {k : Fin 100000}

/-- The gather index of a row is its action: no action is negative. -/
theorem wrapped_apply (ha : a (ix2 r 0) = BitVec.ofNat 32 k.val) : wrapped a (ix3 r 0 0) = BitVec.ofNat 32 k.val := by
  have hk := k.isLt
  refine (shapeCast_apply _ _ _ (ix2 r 0) (by clear ha; revert r; decide)).trans ?_
  show (if BitVec.ofBool ((a (ix2 r 0)).slt (BitVec.ofNat 32 0)) = 1#1 then _ else a (ix2 r 0)) = _
  rw [ha, slt_ofNat (by omega) (by omega), decide_eq_false (Nat.not_lt_zero _), if_neg (by decide)]

/-- Every index of the gather indices is a row. -/
theorem eq_row3 (i : S128x1x1.Idx) : i = ix3 (i 0) 0 0 := by
  funext c; apply Fin.ext
  match c with
  | ⟨0, _⟩ => rfl
  | ⟨1, _⟩ => exact congrArg Fin.val (Subsingleton.elim (α := Fin 1) (i 1) 0)
  | ⟨2, _⟩ => exact congrArg Fin.val (Subsingleton.elim (α := Fin 1) (i 2) 0)

/-- Every gather index names a column. -/
theorem inRange_apply (act : Fin 128 → Fin 100000) (ha : ∀ r, a (ix2 r 0) = BitVec.ofNat 32 (act r).val) (j : S128x1.Idx) :
    inRange a j = 1#1 := by
  refine Host.reduce_andi_one _ _ _ _ _ rfl fun i => ?_
  obtain ⟨r, rfl⟩ : ∃ r, i = ix3 r 0 0 := ⟨i 0, eq_row3 i⟩
  have hk := (act r).isLt
  have hw := wrapped_apply (ha r)
  show IntOp.andi (BitVec.ofBool ((BitVec.ofNat 32 0).sle (wrapped a (ix3 r 0 0))))
    (BitVec.ofBool ((wrapped a (ix3 r 0 0)).sle (BitVec.ofNat 32 99999))) = 1#1
  rw [hw, sle_ofNat (by omega) (by omega), sle_ofNat (by omega) (by omega), decide_eq_true (Nat.zero_le _),
    decide_eq_true (by omega)]
  rfl

/-- The gather reads, in each row, the column that its index names. -/
theorem gather_apply {α : Type} (v : S128x100000.Idx → α) (w : IVec S128x1x1 32) (hw : w (ix3 r 0 0) = BitVec.ofNat 32 k.val) :
    Host.gather gather_S128x100000_S128x1x1_S128x1_n_1_0_0_1_2_11 v w (ix2 r 0) = v (ix2 r k) := by
  have hk := k.isLt
  unfold Host.gather
  refine congrArg v (funext fun c => Fin.ext ?_)
  show gather_S128x100000_S128x1x1_S128x1_n_1_0_0_1_2_11.start (ix2 r 0) w c
    + gather_S128x100000_S128x1x1_S128x1_n_1_0_0_1_2_11.batchCoord (ix2 r 0) c
    + gather_S128x100000_S128x1x1_S128x1_n_1_0_0_1_2_11.offCoord (ix2 r 0) c = (ix2 r k c).val
  have hc : c = 0 ∨ c = 1 := by
    match c with
    | ⟨0, _⟩ => exact .inl rfl
    | ⟨1, _⟩ => exact .inr rfl
  rcases hc with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S128x100000_S128x1x1_S128x1_n_1_0_0_1_2_11.operandBatchingDims from
      List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S128x100000_S128x1x1_S128x1_n_1_0_0_1_2_11.startIndexMap from
      List.mem_singleton.mpr rfl)]
    have hi : gather_S128x100000_S128x1x1_S128x1_n_1_0_0_1_2_11.siIdx (ix2 r 0)
        ⟨List.idxOf (1 : Fin 2) gather_S128x100000_S128x1x1_S128x1_n_1_0_0_1_2_11.startIndexMap,
          List.idxOf_lt_length_iff.2 (List.mem_singleton.mpr rfl)⟩ = ix3 r 0 0 := by
      funext b; apply Fin.ext
      match b with
      | ⟨0, _⟩ => rfl
      | ⟨1, _⟩ => rfl
      | ⟨2, _⟩ => rfl
    rw [hi, hw, BitVec.toInt_eq_toNat_of_lt (by rw [BitVec.toNat_ofNat]; omega), BitVec.toNat_ofNat]
    show min ((k.val % 2 ^ 32 : ℕ) : ℤ).toNat (100000 - 1) = k.val
    rw [Int.toNat_natCast]; omega

/-- The first result at a row: the log-probability of the row's action. -/
theorem outLp_apply {x : FVec Ideal S128x100000 .f32} {m : ℝ} (h : Fit (rowOf x r) m) (act : Fin 128 → Fin 100000)
    (ha : ∀ r, a (ix2 r 0) = BitVec.ofNat 32 (act r).val) :
    outLp x a (ix2 r 0) = (rowOf x r (act r) - (logNorm (rowOf x r) m : EReal) : EReal) := by
  refine (column_apply _ r).trans ((sumColumn_apply _ r).trans ?_)
  show (if inRange a (ix2 r 0) = 1#1 then
    Host.gather gather_S128x100000_S128x1x1_S128x1_n_1_0_0_1_2_11 (logp x) (wrapped a) (ix2 r 0) else _) = _
  rw [if_pos (inRange_apply act ha _), gather_apply (logp x) (wrapped a) (wrapped_apply (ha r)), logp_apply h]

end Action

/-! ## The mode -/

/-- The reducer keeps the pair of the larger value, of equal values the one of the smaller column. -/
theorem reducer_eq (p q : Ideal .f32 × BitVec 32) :
    reducer_argmax_f32_i32 (F := Ideal) p q
      = if (q.1 : EReal) < p.1 ∨ ((p.1 : EReal) = q.1 ∧ p.2.slt q.2 = true) then p else q := by
  obtain ⟨u, i⟩ := p
  obtain ⟨v, j⟩ := q
  have h2 : FloatOps.cmpf (F := Ideal) (φ := .f32) .ogt u v = BitVec.ofBool (decide ((v : EReal) < u)) := rfl
  have h3 : FloatOps.cmpf (F := Ideal) (φ := .f32) .une u u = 0#1 := by
    show BitVec.ofBool (decide ((u : EReal) ≠ u)) = 0#1
    simp
  have h5 : FloatOps.cmpf (F := Ideal) (φ := .f32) .oeq u v = BitVec.ofBool (decide ((u : EReal) = v)) := rfl
  have h6 : IntOp.cmpi .slt i j = BitVec.ofBool (i.slt j) := rfl
  simp only [reducer_argmax_f32_i32, h2, h3, h5, h6]
  by_cases e1 : (v : EReal) < u
  · have e2 : ¬ (u : EReal) = v := e1.ne'
    simp [e1, e2, IntOp.ori, IntOp.andi, Scalar.select]
  · by_cases e2 : (u : EReal) = v
    · subst e2
      cases e3 : i.slt j <;> simp [IntOp.ori, IntOp.andi, Scalar.select]
    · simp [e1, e2, IntOp.ori, IntOp.andi, Scalar.select]

/-- The third result at a row: the word of the first column of the row's maximum. -/
theorem outMode_apply {x : FVec Ideal S128x100000 .f32} {r : Fin 128} {m : ℝ} (h : Fit (rowOf x r) m) {J : Fin 100000}
    (hJ : IsFirst (rowOf x r) m J) : outMode x (ix2 r 0) = BitVec.ofNat 32 J.val := by
  have hJl := J.isLt
  have ht := h.total_pos
  refine (column_apply _ r).trans ?_
  rw [Ideal.argReduce_eq_reduce2, Host.reduce2_eq_foldl_fiber]
  have hp : ∀ j : Fin 100000, (Host.exp (logp x) (ix2 r j) : EReal) = ((weight (rowOf x r) m j / total (rowOf x r) m : ℝ) : EReal) :=
    fun j => by rw [hostExp_at, logp_apply h, h.exp_logProb]
  have hc : ∀ j : Fin 100000, iotaInDim S128x100000 32 1 (ix2 r j) = BitVec.ofNat 32 j.val := fun _ => rfl
  -- the members of the row are the pairs of its columns
  have hmem : ∀ q, q ∈ Host.argReduceFiber (Host.exp (logp x)) (iotaInDim S128x100000 32 1) reducesTo_S128x100000_S128_d1 (ix1 r)
      → ∃ j : Fin 100000, q = (Host.exp (logp x) (ix2 r j), BitVec.ofNat 32 j.val) := by
    intro q hq
    obtain ⟨n, hn, rfl⟩ := List.mem_map.1 hq
    have hd : along.drop (S128x100000.rowMajor.symm n) = ix1 r := of_decide_eq_true (List.mem_filter.1 hn).2
    generalize S128x100000.rowMajor.symm n = i at hd ⊢
    have hi : i = ix2 r (i 1) := ((along.lift_drop i).symm.trans (by rw [hd])).trans (along_lift r (i 1))
    exact ⟨i 1, by rw [hi]; rfl⟩
  have hbest : (Host.exp (logp x) (ix2 r J), BitVec.ofNat 32 J.val) ∈
      Host.argReduceFiber (Host.exp (logp x)) (iotaInDim S128x100000 32 1) reducesTo_S128x100000_S128_d1 (ix1 r) := by
    refine List.mem_map.2 ⟨S128x100000.rowMajor (ix2 r J), List.mem_filter.2 ⟨List.mem_finRange _, ?_⟩, ?_⟩
    · rw [Equiv.symm_apply_apply, decide_eq_true_iff, ← along_lift r J]
      exact along.drop_lift _ _
    · rw [Equiv.symm_apply_apply]; rfl
  have hle : ∀ j : Fin 100000, (Host.exp (logp x) (ix2 r j) : EReal) ≤ Host.exp (logp x) (ix2 r J) := fun j => by
    rw [hp, hp, EReal.coe_le_coe_iff, weight_top hJ.1]
    exact div_le_div_of_nonneg_right (h.weight_le_one j) ht.le
  have hne : ∀ j : Fin 100000, j < J → (Host.exp (logp x) (ix2 r j) : EReal) ≠ Host.exp (logp x) (ix2 r J) := fun j hj e => by
    rw [hp, hp, EReal.coe_eq_coe_iff, weight_top hJ.1, div_left_inj' ht.ne'] at e
    exact hJ.2 j hj (h.eq_of_weight e)
  refine congrArg Prod.snd (foldl_choice _ (fun p q => ?_) (Host.exp (logp x) (ix2 r J), BitVec.ofNat 32 J.val) _ _ hbest ?_
    (fun q hq => ?_) fun q hq => ?_)
  · rw [reducer_eq]; split
    · exact .inl rfl
    · exact .inr rfl
  · rw [reducer_eq, if_neg]
    have hl : (constant (F := Ideal) S_ .f32 0xFF800000#32 (Shape.Idx.first h_S_) : EReal) = ⊥ := ofBits_low
    have hb : (⊥ : EReal) < Host.exp (logp x) (ix2 r J) := by rw [hp]; exact EReal.bot_lt_coe _
    rintro (e | ⟨e, -⟩)
    · exact absurd (hl ▸ e) not_lt_bot
    · exact absurd (hl.symm.trans e) hb.ne
  · obtain ⟨j, rfl⟩ := hmem q hq
    have hjl := j.isLt
    rw [reducer_eq]
    split
    · next e =>
      rcases e with e | ⟨e, e'⟩
      · exact absurd e (not_lt.2 (hle j))
      · rw [slt_ofNat (by omega) (by omega), decide_eq_true_iff] at e'
        exact absurd e (hne j (Fin.lt_def.2 e'))
    · rfl
  · obtain ⟨j, rfl⟩ := hmem q hq
    have hjl := j.isLt
    rw [reducer_eq]
    split
    · rfl
    · next e =>
      rw [not_or] at e
      have e1 := le_antisymm (hle j) (not_lt.1 e.1)
      have e2 : ¬ J.val < j.val := fun hlt => e.2 ⟨e1.symm, by
        rw [slt_ofNat (by omega) (by omega)]; exact decide_eq_true hlt⟩
      have e3 : j = J := (lt_or_eq_of_le (Fin.le_def.2 (not_lt.1 e2))).resolve_left fun hlt => hne j hlt e1
      rw [e3]

/-! ## The three results -/

section Results

variable {x : FVec Ideal S128x100000 .f32} {a : IVec S128x1 32} {top : Fin 128 → ℝ} {act first : Fin 128 → Fin 100000}

/-- The first result holds the log-probabilities of the actions. -/
theorem outLp_eq (R : Reads x a top act first) : outLp x a = lpOf x top act := by
  funext i
  obtain ⟨r, rfl⟩ : ∃ r, i = ix2 r 0 := ⟨i 0, eq_row i⟩
  exact outLp_apply (R.fit r) act R.act

/-- The second result holds the entropies. -/
theorem outEnt_eq (R : Reads x a top act first) : outEnt x = entOf x top := by
  funext i
  obtain ⟨r, rfl⟩ : ∃ r, i = ix2 r 0 := ⟨i 0, eq_row i⟩
  exact outEnt_apply (R.fit r)

/-- The third result holds the modes. -/
theorem outMode_eq (R : Reads x a top act first) : outMode x = modeOf first := by
  funext i
  obtain ⟨r, rfl⟩ : ∃ r, i = ix2 r 0 := ⟨i 0, eq_row i⟩
  exact outMode_apply (R.fit r) (R.first r)

end Results

end Cert.Proof.Ref

end
-- ==== Proof.Precondition.lean ====
/-
  What the precondition says. Its function computes, for each row, whether the action names a column and whether the
  row's maximum lies strictly between the infinities. Where it is one everywhere, the arguments have a reading `Reads`.
-/
module

public import proofs.«01_k».proof.Pre_rows_and_actions
public import proofs.«01_k».proof.Proof.ReferenceValues

@[expose] public section

set_option maxRecDepth 16384

noncomputable section

namespace Cert.Proof.Pre

open Cert.Pre_rows_and_actions Idealize.ShloMosaic
open Cert.Proof.Row
open Cert.Proof.Arr (rowOf Reads)
open Cert.Proof.Blk (ofBits_low)
open Cert.Proof.Ref (ofBits_high along along_lift column_apply)

/-- The side conditions of the precondition's operations. -/
theorem facts : Cert.Pre_rows_and_actions.Facts where
  reducesTo_S128x100000_S128_d1 := by decide
  h_S_ := by decide
  bcast_S128_S128x1_0 := by decide
  bcast_S_S128x1 := by decide

/-- A conjunction of two bits is one only if both are. -/
theorem andi_one : ∀ p q : BitVec 1, IntOp.andi p q = 1#1 → p = 1#1 ∧ q = 1#1 := by decide

/-- The bit of a proposition is one only if the proposition holds. -/
theorem of_bit {b : Bool} (h : BitVec.ofBool b = 1#1) : b = true := by cases b <;> simp_all

/-- A conjunction of the four comparisons, read at an index. -/
theorem compare_at {s : Shape} (a b c : IVec s 32) (t u v : FVec Ideal s .f32) (i : s.Idx)
    (h : andi (andi (andi (cmpi .sge a b) (cmpi .slt a c)) (cmpf .ogt t u)) (cmpf .olt t v) i = 1#1) :
    ((b i).sle (a i) = true ∧ (a i).slt (c i) = true) ∧ (u i : EReal) < t i ∧ (t i : EReal) < v i := by
  obtain ⟨h1, hlt⟩ := andi_one _ _ h
  obtain ⟨h2, hgt⟩ := andi_one _ _ h1
  obtain ⟨hge, hcol⟩ := andi_one _ _ h2
  have hlt : BitVec.ofBool (decide ((t i : EReal) < v i)) = 1#1 := hlt
  have hgt : BitVec.ofBool (decide ((u i : EReal) < t i)) = 1#1 := hgt
  exact ⟨⟨of_bit hge, of_bit hcol⟩, of_decide_eq_true (of_bit hgt), of_decide_eq_true (of_bit hlt)⟩

/-- A word that is not negative and lies below the number of columns is the word of a column. -/
theorem exists_column (w : BitVec 32) (h0 : (BitVec.ofNat 32 0).sle w = true) (h1 : w.slt (BitVec.ofNat 32 100000) = true) :
    ∃ k : Fin 100000, w = BitVec.ofNat 32 k.val := by
  have e0 : (BitVec.ofNat 32 0).toInt ≤ w.toInt := of_decide_eq_true h0
  have e1 : w.toInt < (BitVec.ofNat 32 100000).toInt := of_decide_eq_true h1
  have z0 : (BitVec.ofNat 32 0).toInt = 0 := by decide
  have z1 : (BitVec.ofNat 32 100000).toInt = 100000 := by decide
  rw [z0] at e0
  rw [z1] at e1
  have hw : w.toInt = w.toNat := by
    have := w.isLt
    rw [BitVec.toInt_eq_toNat_cond] at e0 ⊢
    split at e0 <;> omega
  refine ⟨⟨w.toNat, by omega⟩, ?_⟩
  exact (BitVec.ofNat_toNat 32 w ▸ (BitVec.setWidth_eq w).symm)

attribute [local instance] facts

section Row

variable (x : FVec Ideal S128x100000 .f32) (r : Fin 128)

/-- The row maximum as the precondition computes it. -/
theorem top_apply : broadcastInDim S128x1 ![0] Facts.bcast_S128_S128x1_0
    (Host.reduce (FloatOps.maximumf (F := Ideal) (φ := .f32)) x (constant S_ .f32 0xFF800000#32)
      Facts.reducesTo_S128x100000_S128_d1 Facts.h_S_) (ix2 r 0)
    = ((Finset.univ : Finset (Fin 100000)).fold max (⊥ : EReal) (rowOf x r) : EReal) := by
  refine (column_apply _ r).trans ?_
  refine (Host.reduce_eq_fold_single (FloatOps.maximumf (F := Ideal) (φ := .f32)) x _ _ along _ (ix1 r)).trans ?_
  have hl : (constant (F := Ideal) S_ .f32 0xFF800000#32 (Shape.Idx.first Facts.h_S_) : EReal) = ⊥ := ofBits_low
  rw [hl]
  exact congrArg (fun g => Finset.univ.fold max (⊥ : EReal) g) (funext fun j => congrArg x (along_lift r j))

end Row

/-- Arguments of which the precondition holds have a reading. -/
theorem reads (x : FVec Ideal S128x100000 .f32) (a : IVec S128x1 32) (h : fn (F := Ideal) x a = fun _ => 1#1) :
    ∃ (top : Fin 128 → ℝ) (act first : Fin 128 → Fin 100000), Reads x a top act first := by
  have key : ∀ r : Fin 128, (∃ m : ℝ, Fit (rowOf x r) m) ∧ ∃ k : Fin 100000, a (ix2 r 0) = BitVec.ofNat 32 k.val := by
    intro r
    have hr := congrFun h (ix2 r 0)
    obtain ⟨⟨hge, hcol⟩, hgt, hlt⟩ := compare_at a _ _ _ _ _ (ix2 r 0) hr
    rw [top_apply x r] at hgt hlt
    exact ⟨exists_fit _ (lt_of_eq_of_lt ofBits_low.symm hgt) (lt_of_lt_of_eq hlt ofBits_high), exists_column _ hge hcol⟩
  choose top fit act hact using fun r => (⟨(key r).1.choose, (key r).1.choose_spec, (key r).2.choose, (key r).2.choose_spec⟩ :
    ∃ m : ℝ, ∃ _ : Fit (rowOf x r) m, ∃ k : Fin 100000, a (ix2 r 0) = BitVec.ofNat 32 k.val)
  choose first hfirst using fun r => (fit r).exists_first
  exact ⟨top, act, first, ⟨fit, hact, hfirst⟩⟩

end Cert.Proof.Pre

end
-- ==== Proof.lean ====
/-
  The certificate's claims assembled. The frames of the two kernels are the generated ones, the reference's frame is its
  run's; the value claim is the kernel's three arrays and the reference's three results, both equal to the same functions
  of the rows under the reading that the precondition gives.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelArrays
public import proofs.«01_k».proof.Proof.ReferenceValues
public import proofs.«01_k».proof.Proof.Precondition
public import Idealize.ShloMosaic.Adequacy
public import Idealize.ShloMosaic.Init

@[expose] public section

noncomputable section

namespace Cert.Proof

open Idealize.ShloMosaic Idealize.SL.Sem
open Cert.Proof.Arr (Reads X A lpOf entOf modeOf arr5 arr6 arr7)

/-- Kernel and reference compute the same three arrays over the extended reals, for arguments of which the precondition
    holds. -/
theorem values : algebraic_KernelIdeal_ReferenceIdeal_pre_rows_and_actions (hKernelIdeal := Cert.KernelIdeal.Gen.facts)
    (hReferenceIdeal := Cert.ReferenceIdeal.Gen.facts) (hPre_rows_and_actions := Pre.facts) := by
  intro m g m' g' hpre hargs
  have hR : ∀ c : Dev Cert.KernelIdeal.nD, ∃ (top : Fin 128 → ℝ) (act first : Fin 128 → Fin 100000),
      Reads (X m c) (A m c) top act first := fun c => Pre.reads _ _ (hpre c)
  choose top act first R using hR
  refine ⟨fun c => lpOf (X m c) (top c) (act c), fun c => entOf (X m c) (top c), fun c => modeOf (first c), ?_, ?_⟩
  · refine (θ_run Cert.KernelIdeal.defs _ _).mono (fun r h c => ?_) (Cert.KernelIdeal.Value.run_blocks m g)
    obtain ⟨h0, h1, h2, k0, k1⟩ := h c
    exact ⟨h0.trans (arr5 (R c)), h1.trans (arr6 (R c)), h2.trans (arr7 (R c)), k0, k1⟩
  · refine (θ_run Cert.ReferenceIdeal.defs _ _).mono (fun r h c => ?_) (Ref.run m' g')
    obtain ⟨h0, h1, h2, k0, k1⟩ := h c
    obtain ⟨e0, e1⟩ := hargs c
    rw [e0, e1] at h0
    rw [e0] at h1 h2
    exact ⟨h0.trans (Ref.outLp_eq (R c)), h1.trans (Ref.outEnt_eq (R c)), h2.trans (Ref.outMode_eq (R c)), k0, k1⟩

/-- Everything the certificate claims. -/
theorem claim : Cert.Claim :=
  ⟨Cert.Kernel.Gen.facts, Cert.KernelIdeal.Gen.facts, Cert.ReferenceIdeal.Gen.facts, Pre.facts,
    fun m ρ _ => Cert.Kernel.Gen.frame m ρ, fun m ρ _ => Cert.KernelIdeal.Gen.frame m ρ,
    fun m ρ _ => Cert.KernelIdeal.Gen.frame m ρ, fun m ρ _ => Ref.frame m ρ, fun m ρ _ => Ref.frame m ρ, trivial, values⟩

end Cert.Proof

end
